-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x512x11008 : Shape := ⟨3, ![1, 512, 11008]⟩
abbrev S1x512 : Shape := ⟨2, ![1, 512]⟩
abbrev S4096x11008 : Shape := ⟨2, ![4096, 11008]⟩
abbrev S_ : Shape := ⟨0, ![]⟩

class Facts : Prop where
  bcast_S_S1x512x11008 : S_.BroadcastsInDim S1x512x11008 (![] : Fin 0 → Fin S1x512x11008.rank)
  reducesTo_S1x512x11008_S_d0_1_2 : S1x512x11008.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S1x512x11008 .f32) (main_arg1 : FVec F S1x512 .f32) (main_arg2 : FVec F S4096x11008 .bf16) : IVec S_ 1 :=
  let main_v0 : FVec F S1x512x11008 .f32 := Host.absf main_arg0
  let main_cst : FVec F S_ .f32 := constant S_ .f32 0x7F800000#32
  let main_v1 : FVec F S1x512x11008 .f32 := broadcastInDim S1x512x11008 ![] bcast_S_S1x512x11008 main_cst
  let main_v2 : IVec S1x512x11008 1 := cmpf .olt main_v0 main_v1
  let main_c : IVec S_ 1 := constantI S_ 1 1#1
  let main_v3 : IVec S_ 1 := (fun x v => Host.reduce IntOp.andi x v reducesTo_S1x512x11008_S_d0_1_2 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S4096x11008 .bf16 := Host.absf main_arg2
  let main_cst_2 : FVec F S_ .bf16 := constant S_ .bf16 0x7F80#16
  let main_v10 : FVec F S4096x11008 .bf16 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  main_v13
-- ==== Kernel.lean ====
abbrev S1x512x11008 : Shape := ⟨3, ![1, 512, 11008]⟩
abbrev S1x512 : Shape := ⟨2, ![1, 512]⟩
abbrev S4096x11008 : Shape := ⟨2, ![4096, 11008]⟩
abbrev S512x11008 : Shape := ⟨2, ![512, 11008]⟩
abbrev S20x86x4096 : Shape := ⟨3, ![20, 86, 4096]⟩
abbrev S86x20x64x4096 : Shape := ⟨4, ![86, 20, 64, 4096]⟩
abbrev S512x1024 : Shape := ⟨2, ![512, 1024]⟩
abbrev S20x8x512 : Shape := ⟨3, ![20, 8, 512]⟩
abbrev S8x20x64x512 : Shape := ⟨4, ![8, 20, 64, 512]⟩
abbrev S8x20x128x384 : Shape := ⟨4, ![8, 20, 128, 384]⟩
abbrev S24x512 : Shape := ⟨2, ![24, 512]⟩
abbrev S8x512 : Shape := ⟨2, ![8, 512]⟩
abbrev S80x72x128 : Shape := ⟨3, ![80, 72, 128]⟩
abbrev S512x128 : Shape := ⟨2, ![512, 128]⟩
abbrev S128x512 : Shape := ⟨2, ![128, 512]⟩
abbrev S128x128 : Shape := ⟨2, ![128, 128]⟩
abbrev S8x128 : Shape := ⟨2, ![8, 128]⟩
abbrev S1x128 : Shape := ⟨2, ![1, 128]⟩
abbrev S128x384 : Shape := ⟨2, ![128, 384]⟩
abbrev S1x1x128x384 : Shape := ⟨4, ![1, 1, 128, 384]⟩
abbrev S512 : Shape := ⟨1, ![512]⟩
abbrev S384x512 : Shape := ⟨2, ![384, 512]⟩
abbrev S64x2x512 : Shape := ⟨3, ![64, 2, 512]⟩
abbrev S64x1x512 : Shape := ⟨3, ![64, 1, 512]⟩
abbrev S64x512 : Shape := ⟨2, ![64, 512]⟩
abbrev S1x1x64x512 : Shape := ⟨4, ![1, 1, 64, 512]⟩
abbrev S1x72x128 : Shape := ⟨3, ![1, 72, 128]⟩
abbrev S72x128 : Shape := ⟨2, ![72, 128]⟩
abbrev S1x8x512 : Shape := ⟨3, ![1, 8, 512]⟩
abbrev S1x8x128 : Shape := ⟨3, ![1, 8, 128]⟩
abbrev S4096x86x20 : Shape := ⟨3, ![4096, 86, 20]⟩
abbrev S4096x86x20x64 : Shape := ⟨4, ![4096, 86, 20, 64]⟩

abbrev nBuf : Space → Nat
  | .hbm => 11
  | .vmem => 15
  | .smem => 0
  | _ => 0

abbrev bufTy : (tb : Table) → Fin (tcTables nBuf tb) → BufTy
  | .hbm, ⟨0, _⟩ => ⟨S1x512x11008, .f32⟩
  | .hbm, ⟨1, _⟩ => ⟨S1x512, .f32⟩
  | .hbm, ⟨2, _⟩ => ⟨S4096x11008, .bf16⟩
  | .hbm, ⟨3, _⟩ => ⟨S1x512x11008, .fp8e4m3⟩
  | .hbm, ⟨4, _⟩ => ⟨S512x11008, .fp8e4m3⟩
  | .hbm, ⟨5, _⟩ => ⟨S20x86x4096, .f32⟩
  | .hbm, ⟨6, _⟩ => ⟨S86x20x64x4096, .i8⟩
  | .hbm, ⟨7, _⟩ => ⟨S20x86x4096, .f32⟩
  | .hbm, ⟨8, _⟩ => ⟨S4096x86x20, .f32⟩
  | .hbm, ⟨9, _⟩ => ⟨S4096x86x20x64, .i8⟩
  | .hbm, ⟨10, _⟩ => ⟨S4096x86x20, .f32⟩
  | .local _ .vmem, ⟨0, _⟩ => ⟨S512x1024, .fp8e4m3⟩
  | .local _ .vmem, ⟨1, _⟩ => ⟨S512x1024, .fp8e4m3⟩
  | .local _ .vmem, ⟨2, _⟩ => ⟨S1x512, .f32⟩
  | .local _ .vmem, ⟨3, _⟩ => ⟨S512x1024, .bf16⟩
  | .local _ .vmem, ⟨4, _⟩ => ⟨S512x1024, .bf16⟩
  | .local _ .vmem, ⟨5, _⟩ => ⟨S20x8x512, .f32⟩
  | .local _ .vmem, ⟨6, _⟩ => ⟨S20x8x512, .f32⟩
  | .local _ .vmem, ⟨7, _⟩ => ⟨S8x20x64x512, .i8⟩
  | .local _ .vmem, ⟨8, _⟩ => ⟨S8x20x64x512, .i8⟩
  | .local _ .vmem, ⟨9, _⟩ => ⟨S20x8x512, .f32⟩
  | .local _ .vmem, ⟨10, _⟩ => ⟨S20x8x512, .f32⟩
  | .local _ .vmem, ⟨11, _⟩ => ⟨S8x20x128x384, .bf16⟩
  | .local _ .vmem, ⟨12, _⟩ => ⟨S24x512, .f32⟩
  | .local _ .vmem, ⟨13, _⟩ => ⟨S8x512, .f32⟩
  | .local _ .vmem, ⟨14, _⟩ => ⟨S80x72x128, .f32⟩
  | _, _ => ⟨S1x512x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_1 : BitVec 32 := 0#32
  let v5 : BitVec 1 := Scalar.cmpi .ne v4 c0_i32_1
  v5

@[reducible] def k0_t1_loop (i : grid0.Coords) : Scf.Loop 32 :=
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3543 : BitVec 32 := 1#32
  ⟨c0_i32_3541, v3382, c1_i32_3543⟩
def k0_mult1 (i : grid0.Coords) (k0_t1 : Fin (k0_t1_loop i).trips) : BitVec 32 :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let c128_i32 : BitVec 32 := 128#32
  let v3385 : BitVec 32 := Scalar.muli v3384 c128_i32
  v3385
def k0_off1 (i : grid0.Coords) (k0_t1 : Fin (k0_t1_loop i).trips) : Fin 2 → Nat :=
  let c0_3545 : Index := 0#32
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let c128_i32 : BitVec 32 := 128#32
  let v3385 : BitVec 32 := Scalar.muli v3384 c128_i32
  let v3386 : BitVec 32 := v3385
  let v3387 : Index := Scalar.indexCast v3386
  ![0, v3387.toNat]
def k0_off2 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3413 : Index := Scalar.indexCast v3384
  let c0_3552 : Index := 0#32
  let c0_3553 : Index := 0#32
  let c0_3554 : Index := 0#32
  ![v3413.toNat, 0, 0, 0]
def k0_off3 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3433 : Index := Scalar.indexCast v3384
  let c1_3558 : Index := 1#32
  let c0_3559 : Index := 0#32
  let c0_3560 : Index := 0#32
  ![v3433.toNat, 1, 0, 0]
def k0_off4 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3453 : Index := Scalar.indexCast v3384
  let c2_3564 : Index := 2#32
  let c0_3565 : Index := 0#32
  let c0_3566 : Index := 0#32
  ![v3453.toNat, 2, 0, 0]
def k0_off5 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3473 : Index := Scalar.indexCast v3384
  let c3_3570 : Index := 3#32
  let c0_3571 : Index := 0#32
  let c0_3572 : Index := 0#32
  ![v3473.toNat, 3, 0, 0]
def k0_off6 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3493 : Index := Scalar.indexCast v3384
  let c4_3576 : Index := 4#32
  let c0_3577 : Index := 0#32
  let c0_3578 : Index := 0#32
  ![v3493.toNat, 4, 0, 0]
def k0_off7 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3513 : Index := Scalar.indexCast v3384
  let c5_3582 : Index := 5#32
  let c0_3583 : Index := 0#32
  let c0_3584 : Index := 0#32
  ![v3513.toNat, 5, 0, 0]
def k0_off8 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3533 : Index := Scalar.indexCast v3384
  let c6_3588 : Index := 6#32
  let c0_3589 : Index := 0#32
  let c0_3590 : Index := 0#32
  ![v3533.toNat, 6, 0, 0]
def k0_off9 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3553 : Index := Scalar.indexCast v3384
  let c7_3594 : Index := 7#32
  let c0_3595 : Index := 0#32
  let c0_3596 : Index := 0#32
  ![v3553.toNat, 7, 0, 0]
def k0_off10 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3573 : Index := Scalar.indexCast v3384
  let c8_3600 : Index := 8#32
  let c0_3601 : Index := 0#32
  let c0_3602 : Index := 0#32
  ![v3573.toNat, 8, 0, 0]
def k0_off11 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3593 : Index := Scalar.indexCast v3384
  let c9_3606 : Index := 9#32
  let c0_3607 : Index := 0#32
  let c0_3608 : Index := 0#32
  ![v3593.toNat, 9, 0, 0]
def k0_off12 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3613 : Index := Scalar.indexCast v3384
  let c10_3612 : Index := 10#32
  let c0_3613 : Index := 0#32
  let c0_3614 : Index := 0#32
  ![v3613.toNat, 10, 0, 0]
def k0_off13 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3633 : Index := Scalar.indexCast v3384
  let c11_3618 : Index := 11#32
  let c0_3619 : Index := 0#32
  let c0_3620 : Index := 0#32
  ![v3633.toNat, 11, 0, 0]
def k0_off14 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3653 : Index := Scalar.indexCast v3384
  let c12_3624 : Index := 12#32
  let c0_3625 : Index := 0#32
  let c0_3626 : Index := 0#32
  ![v3653.toNat, 12, 0, 0]
def k0_off15 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3673 : Index := Scalar.indexCast v3384
  let c13_3630 : Index := 13#32
  let c0_3631 : Index := 0#32
  let c0_3632 : Index := 0#32
  ![v3673.toNat, 13, 0, 0]
def k0_off16 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3693 : Index := Scalar.indexCast v3384
  let c14_3636 : Index := 14#32
  let c0_3637 : Index := 0#32
  let c0_3638 : Index := 0#32
  ![v3693.toNat, 14, 0, 0]
def k0_off17 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3713 : Index := Scalar.indexCast v3384
  let c15_3642 : Index := 15#32
  let c0_3643 : Index := 0#32
  let c0_3644 : Index := 0#32
  ![v3713.toNat, 15, 0, 0]
def k0_off18 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3733 : Index := Scalar.indexCast v3384
  let c16_3648 : Index := 16#32
  let c0_3649 : Index := 0#32
  let c0_3650 : Index := 0#32
  ![v3733.toNat, 16, 0, 0]
def k0_off19 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3753 : Index := Scalar.indexCast v3384
  let c17_3654 : Index := 17#32
  let c0_3655 : Index := 0#32
  let c0_3656 : Index := 0#32
  ![v3753.toNat, 17, 0, 0]
def k0_off20 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3773 : Index := Scalar.indexCast v3384
  let c18_3660 : Index := 18#32
  let c0_3661 : Index := 0#32
  let c0_3662 : Index := 0#32
  ![v3773.toNat, 18, 0, 0]
def k0_off21 (i : grid0.Coords) (k0_t1 : Fin (k0_t1_loop i).trips) : Fin 4 → Nat :=
  let c0_i32_3540 : BitVec 32 := 0#32
  let c0_i32_3541 : BitVec 32 := 0#32
  let c1_i32_3543 : BitVec 32 := 1#32
  let arg12 : BitVec 32 := Scf.iv c0_i32_3541 c1_i32_3543 k0_t1
  let c1_i32_3539 : BitVec 32 := 1#32
  let v3383 : BitVec 32 := Scalar.muli arg12 c1_i32_3539
  let v3384 : BitVec 32 := Scalar.addi c0_i32_3540 v3383
  let v3793 : Index := Scalar.indexCast v3384
  let c19_3666 : Index := 19#32
  let c0_3667 : Index := 0#32
  let c0_3668 : Index := 0#32
  ![v3793.toNat, 19, 0, 0]
@[reducible] def k0_t2_loop (i : grid0.Coords) : Scf.Loop 32 :=
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let v3379 : BitVec 32 := Scalar.addi c0_i32_3541 v3378
  let c1_i32_3544 : BitVec 32 := 1#32
  ⟨v3382, v3379, c1_i32_3544⟩
def k0_mult2 (i : grid0.Coords) (k0_t2 : Fin (k0_t2_loop i).trips) : BitVec 32 :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let c128_i32 : BitVec 32 := 128#32
  let v3385 : BitVec 32 := Scalar.muli v3384 c128_i32
  v3385
def k0_off22 (i : grid0.Coords) (k0_t2 : Fin (k0_t2_loop i).trips) : Fin 2 → Nat :=
  let c0_3545 : Index := 0#32
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let c128_i32 : BitVec 32 := 128#32
  let v3385 : BitVec 32 := Scalar.muli v3384 c128_i32
  let v3386 : BitVec 32 := v3385
  let v3387 : Index := Scalar.indexCast v3386
  ![0, v3387.toNat]
def k0_off23 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3413 : Index := Scalar.indexCast v3384
  let c0_3552 : Index := 0#32
  let c0_3553 : Index := 0#32
  let c0_3554 : Index := 0#32
  ![v3413.toNat, 0, 0, 0]
def k0_off24 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3433 : Index := Scalar.indexCast v3384
  let c1_3558 : Index := 1#32
  let c0_3559 : Index := 0#32
  let c0_3560 : Index := 0#32
  ![v3433.toNat, 1, 0, 0]
def k0_off25 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3453 : Index := Scalar.indexCast v3384
  let c2_3564 : Index := 2#32
  let c0_3565 : Index := 0#32
  let c0_3566 : Index := 0#32
  ![v3453.toNat, 2, 0, 0]
def k0_off26 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3473 : Index := Scalar.indexCast v3384
  let c3_3570 : Index := 3#32
  let c0_3571 : Index := 0#32
  let c0_3572 : Index := 0#32
  ![v3473.toNat, 3, 0, 0]
def k0_off27 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3493 : Index := Scalar.indexCast v3384
  let c4_3576 : Index := 4#32
  let c0_3577 : Index := 0#32
  let c0_3578 : Index := 0#32
  ![v3493.toNat, 4, 0, 0]
def k0_off28 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3513 : Index := Scalar.indexCast v3384
  let c5_3582 : Index := 5#32
  let c0_3583 : Index := 0#32
  let c0_3584 : Index := 0#32
  ![v3513.toNat, 5, 0, 0]
def k0_off29 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3533 : Index := Scalar.indexCast v3384
  let c6_3588 : Index := 6#32
  let c0_3589 : Index := 0#32
  let c0_3590 : Index := 0#32
  ![v3533.toNat, 6, 0, 0]
def k0_off30 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3553 : Index := Scalar.indexCast v3384
  let c7_3594 : Index := 7#32
  let c0_3595 : Index := 0#32
  let c0_3596 : Index := 0#32
  ![v3553.toNat, 7, 0, 0]
def k0_off31 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3573 : Index := Scalar.indexCast v3384
  let c8_3600 : Index := 8#32
  let c0_3601 : Index := 0#32
  let c0_3602 : Index := 0#32
  ![v3573.toNat, 8, 0, 0]
def k0_off32 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3593 : Index := Scalar.indexCast v3384
  let c9_3606 : Index := 9#32
  let c0_3607 : Index := 0#32
  let c0_3608 : Index := 0#32
  ![v3593.toNat, 9, 0, 0]
def k0_off33 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3613 : Index := Scalar.indexCast v3384
  let c10_3612 : Index := 10#32
  let c0_3613 : Index := 0#32
  let c0_3614 : Index := 0#32
  ![v3613.toNat, 10, 0, 0]
def k0_off34 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3633 : Index := Scalar.indexCast v3384
  let c11_3618 : Index := 11#32
  let c0_3619 : Index := 0#32
  let c0_3620 : Index := 0#32
  ![v3633.toNat, 11, 0, 0]
def k0_off35 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3653 : Index := Scalar.indexCast v3384
  let c12_3624 : Index := 12#32
  let c0_3625 : Index := 0#32
  let c0_3626 : Index := 0#32
  ![v3653.toNat, 12, 0, 0]
def k0_off36 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3673 : Index := Scalar.indexCast v3384
  let c13_3630 : Index := 13#32
  let c0_3631 : Index := 0#32
  let c0_3632 : Index := 0#32
  ![v3673.toNat, 13, 0, 0]
def k0_off37 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3693 : Index := Scalar.indexCast v3384
  let c14_3636 : Index := 14#32
  let c0_3637 : Index := 0#32
  let c0_3638 : Index := 0#32
  ![v3693.toNat, 14, 0, 0]
def k0_off38 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3713 : Index := Scalar.indexCast v3384
  let c15_3642 : Index := 15#32
  let c0_3643 : Index := 0#32
  let c0_3644 : Index := 0#32
  ![v3713.toNat, 15, 0, 0]
def k0_off39 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3733 : Index := Scalar.indexCast v3384
  let c16_3648 : Index := 16#32
  let c0_3649 : Index := 0#32
  let c0_3650 : Index := 0#32
  ![v3733.toNat, 16, 0, 0]
def k0_off40 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3753 : Index := Scalar.indexCast v3384
  let c17_3654 : Index := 17#32
  let c0_3655 : Index := 0#32
  let c0_3656 : Index := 0#32
  ![v3753.toNat, 17, 0, 0]
def k0_off41 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3773 : Index := Scalar.indexCast v3384
  let c18_3660 : Index := 18#32
  let c0_3661 : Index := 0#32
  let c0_3662 : Index := 0#32
  ![v3773.toNat, 18, 0, 0]
def k0_off42 (i : grid0.Coords) (k0_t2 : Fin (k0_t2_loop i).trips) : Fin 4 → Nat :=
  let c0_i32_3540 : BitVec 32 := 0#32
  let c0_i32_3541 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3535 : BitVec 32 := 0#32
  let v3374 : BitVec 32 := Scalar.subi v2 c0_i32_3535
  let c1_i32_3536 : BitVec 32 := 1#32
  let c1_i32_3537 : BitVec 32 := 1#32
  let v3375 : BitVec 32 := Scalar.subi c1_i32_3536 c1_i32_3537
  let v3376 : BitVec 32 := Scalar.addi v3374 v3375
  let c1_i32_3538 : BitVec 32 := 1#32
  let v3377 : BitVec 32 := Scalar.divsi v3376 c1_i32_3538
  let v3378 : BitVec 32 := Scalar.subi v3377 c0_i32_3541
  let c1_i32_3542 : BitVec 32 := 1#32
  let v3380 : BitVec 32 := Scalar.divsi v3378 c1_i32_3542
  let v3381 : BitVec 32 := Scalar.muli v3380 c1_i32_3542
  let v3382 : BitVec 32 := Scalar.addi c0_i32_3541 v3381
  let c1_i32_3544 : BitVec 32 := 1#32
  let arg12 : BitVec 32 := Scf.iv v3382 c1_i32_3544 k0_t2
  let c1_i32_3539 : BitVec 32 := 1#32
  let v3383 : BitVec 32 := Scalar.muli arg12 c1_i32_3539
  let v3384 : BitVec 32 := Scalar.addi c0_i32_3540 v3383
  let v3793 : Index := Scalar.indexCast v3384
  let c19_3666 : Index := 19#32
  let c0_3667 : Index := 0#32
  let c0_3668 : Index := 0#32
  ![v3793.toNat, 19, 0, 0]
@[reducible] def k0_t3_loop (i : grid0.Coords) : Scf.Loop 32 :=
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_10 : BitVec 32 := 1#32
  ⟨c0_i32_8, v20, c1_i32_10⟩
def k0_mult3 (i : grid0.Coords) (k0_t3 : Fin (k0_t3_loop i).trips) : BitVec 32 :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let c128_i32 : BitVec 32 := 128#32
  let v3376 : BitVec 32 := Scalar.muli v3375 c128_i32
  v3376
def k0_off43 (i : grid0.Coords) (k0_t3 : Fin (k0_t3_loop i).trips) : Fin 2 → Nat :=
  let c0_3535 : Index := 0#32
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let c128_i32 : BitVec 32 := 128#32
  let v3376 : BitVec 32 := Scalar.muli v3375 c128_i32
  let v3377 : BitVec 32 := v3376
  let v3378 : Index := Scalar.indexCast v3377
  ![0, v3378.toNat]
def k0_off44 (i : grid0.Coords) (k0_t3 : Fin (k0_t3_loop i).trips) : Fin 2 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3385 : Index := Scalar.indexCast v3375
  let c0_3537 : Index := 0#32
  ![v3385.toNat, 0]
def k0_off45 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3404 : Index := Scalar.indexCast v3375
  let c0_3544 : Index := 0#32
  let c0_3545 : Index := 0#32
  let c0_3546 : Index := 0#32
  ![v3404.toNat, 0, 0, 0]
def k0_off46 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3440 : Index := Scalar.indexCast v3375
  let c0_3556 : Index := 0#32
  let c0_3557 : Index := 0#32
  let c0_3558 : Index := 0#32
  ![v3440.toNat, 0, 0, 0]
def k0_off47 (i : grid0.Coords) (k0_t3 : Fin (k0_t3_loop i).trips) : Fin 2 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3486 : Index := Scalar.indexCast v3375
  let c0_3566 : Index := 0#32
  ![v3486.toNat, 0]
def k0_off48 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3539 : Index := Scalar.indexCast v3375
  let c1_3586 : Index := 1#32
  let c0_3587 : Index := 0#32
  let c0_3588 : Index := 0#32
  ![v3539.toNat, 1, 0, 0]
def k0_off49 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3543 : Index := Scalar.indexCast v3375
  let c1_3589 : Index := 1#32
  let c0_3590 : Index := 0#32
  let c0_3591 : Index := 0#32
  ![v3543.toNat, 1, 0, 0]
def k0_off50 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3638 : Index := Scalar.indexCast v3375
  let c2_3616 : Index := 2#32
  let c0_3617 : Index := 0#32
  let c0_3618 : Index := 0#32
  ![v3638.toNat, 2, 0, 0]
def k0_off51 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3642 : Index := Scalar.indexCast v3375
  let c2_3619 : Index := 2#32
  let c0_3620 : Index := 0#32
  let c0_3621 : Index := 0#32
  ![v3642.toNat, 2, 0, 0]
def k0_off52 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3737 : Index := Scalar.indexCast v3375
  let c3_3646 : Index := 3#32
  let c0_3647 : Index := 0#32
  let c0_3648 : Index := 0#32
  ![v3737.toNat, 3, 0, 0]
def k0_off53 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3741 : Index := Scalar.indexCast v3375
  let c3_3649 : Index := 3#32
  let c0_3650 : Index := 0#32
  let c0_3651 : Index := 0#32
  ![v3741.toNat, 3, 0, 0]
def k0_off54 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3836 : Index := Scalar.indexCast v3375
  let c4_3676 : Index := 4#32
  let c0_3677 : Index := 0#32
  let c0_3678 : Index := 0#32
  ![v3836.toNat, 4, 0, 0]
def k0_off55 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3840 : Index := Scalar.indexCast v3375
  let c4_3679 : Index := 4#32
  let c0_3680 : Index := 0#32
  let c0_3681 : Index := 0#32
  ![v3840.toNat, 4, 0, 0]
def k0_off56 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3935 : Index := Scalar.indexCast v3375
  let c5_3706 : Index := 5#32
  let c0_3707 : Index := 0#32
  let c0_3708 : Index := 0#32
  ![v3935.toNat, 5, 0, 0]
def k0_off57 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v3939 : Index := Scalar.indexCast v3375
  let c5_3709 : Index := 5#32
  let c0_3710 : Index := 0#32
  let c0_3711 : Index := 0#32
  ![v3939.toNat, 5, 0, 0]
def k0_off58 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4034 : Index := Scalar.indexCast v3375
  let c6_3736 : Index := 6#32
  let c0_3737 : Index := 0#32
  let c0_3738 : Index := 0#32
  ![v4034.toNat, 6, 0, 0]
def k0_off59 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4038 : Index := Scalar.indexCast v3375
  let c6_3739 : Index := 6#32
  let c0_3740 : Index := 0#32
  let c0_3741 : Index := 0#32
  ![v4038.toNat, 6, 0, 0]
def k0_off60 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4133 : Index := Scalar.indexCast v3375
  let c7_3766 : Index := 7#32
  let c0_3767 : Index := 0#32
  let c0_3768 : Index := 0#32
  ![v4133.toNat, 7, 0, 0]
def k0_off61 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4137 : Index := Scalar.indexCast v3375
  let c7_3769 : Index := 7#32
  let c0_3770 : Index := 0#32
  let c0_3771 : Index := 0#32
  ![v4137.toNat, 7, 0, 0]
def k0_off62 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4232 : Index := Scalar.indexCast v3375
  let c8_3796 : Index := 8#32
  let c0_3797 : Index := 0#32
  let c0_3798 : Index := 0#32
  ![v4232.toNat, 8, 0, 0]
def k0_off63 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4236 : Index := Scalar.indexCast v3375
  let c8_3799 : Index := 8#32
  let c0_3800 : Index := 0#32
  let c0_3801 : Index := 0#32
  ![v4236.toNat, 8, 0, 0]
def k0_off64 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4331 : Index := Scalar.indexCast v3375
  let c9_3826 : Index := 9#32
  let c0_3827 : Index := 0#32
  let c0_3828 : Index := 0#32
  ![v4331.toNat, 9, 0, 0]
def k0_off65 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4335 : Index := Scalar.indexCast v3375
  let c9_3829 : Index := 9#32
  let c0_3830 : Index := 0#32
  let c0_3831 : Index := 0#32
  ![v4335.toNat, 9, 0, 0]
def k0_off66 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4430 : Index := Scalar.indexCast v3375
  let c10_3856 : Index := 10#32
  let c0_3857 : Index := 0#32
  let c0_3858 : Index := 0#32
  ![v4430.toNat, 10, 0, 0]
def k0_off67 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4434 : Index := Scalar.indexCast v3375
  let c10_3859 : Index := 10#32
  let c0_3860 : Index := 0#32
  let c0_3861 : Index := 0#32
  ![v4434.toNat, 10, 0, 0]
def k0_off68 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4529 : Index := Scalar.indexCast v3375
  let c11_3886 : Index := 11#32
  let c0_3887 : Index := 0#32
  let c0_3888 : Index := 0#32
  ![v4529.toNat, 11, 0, 0]
def k0_off69 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4533 : Index := Scalar.indexCast v3375
  let c11_3889 : Index := 11#32
  let c0_3890 : Index := 0#32
  let c0_3891 : Index := 0#32
  ![v4533.toNat, 11, 0, 0]
def k0_off70 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4628 : Index := Scalar.indexCast v3375
  let c12_3916 : Index := 12#32
  let c0_3917 : Index := 0#32
  let c0_3918 : Index := 0#32
  ![v4628.toNat, 12, 0, 0]
def k0_off71 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4632 : Index := Scalar.indexCast v3375
  let c12_3919 : Index := 12#32
  let c0_3920 : Index := 0#32
  let c0_3921 : Index := 0#32
  ![v4632.toNat, 12, 0, 0]
def k0_off72 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4727 : Index := Scalar.indexCast v3375
  let c13_3946 : Index := 13#32
  let c0_3947 : Index := 0#32
  let c0_3948 : Index := 0#32
  ![v4727.toNat, 13, 0, 0]
def k0_off73 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4731 : Index := Scalar.indexCast v3375
  let c13_3949 : Index := 13#32
  let c0_3950 : Index := 0#32
  let c0_3951 : Index := 0#32
  ![v4731.toNat, 13, 0, 0]
def k0_off74 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4826 : Index := Scalar.indexCast v3375
  let c14_3976 : Index := 14#32
  let c0_3977 : Index := 0#32
  let c0_3978 : Index := 0#32
  ![v4826.toNat, 14, 0, 0]
def k0_off75 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4830 : Index := Scalar.indexCast v3375
  let c14_3979 : Index := 14#32
  let c0_3980 : Index := 0#32
  let c0_3981 : Index := 0#32
  ![v4830.toNat, 14, 0, 0]
def k0_off76 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4925 : Index := Scalar.indexCast v3375
  let c15_4006 : Index := 15#32
  let c0_4007 : Index := 0#32
  let c0_4008 : Index := 0#32
  ![v4925.toNat, 15, 0, 0]
def k0_off77 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v4929 : Index := Scalar.indexCast v3375
  let c15_4009 : Index := 15#32
  let c0_4010 : Index := 0#32
  let c0_4011 : Index := 0#32
  ![v4929.toNat, 15, 0, 0]
def k0_off78 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5024 : Index := Scalar.indexCast v3375
  let c16_4036 : Index := 16#32
  let c0_4037 : Index := 0#32
  let c0_4038 : Index := 0#32
  ![v5024.toNat, 16, 0, 0]
def k0_off79 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5028 : Index := Scalar.indexCast v3375
  let c16_4039 : Index := 16#32
  let c0_4040 : Index := 0#32
  let c0_4041 : Index := 0#32
  ![v5028.toNat, 16, 0, 0]
def k0_off80 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5123 : Index := Scalar.indexCast v3375
  let c17_4066 : Index := 17#32
  let c0_4067 : Index := 0#32
  let c0_4068 : Index := 0#32
  ![v5123.toNat, 17, 0, 0]
def k0_off81 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5127 : Index := Scalar.indexCast v3375
  let c17_4069 : Index := 17#32
  let c0_4070 : Index := 0#32
  let c0_4071 : Index := 0#32
  ![v5127.toNat, 17, 0, 0]
def k0_off82 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5222 : Index := Scalar.indexCast v3375
  let c18_4096 : Index := 18#32
  let c0_4097 : Index := 0#32
  let c0_4098 : Index := 0#32
  ![v5222.toNat, 18, 0, 0]
def k0_off83 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5226 : Index := Scalar.indexCast v3375
  let c18_4099 : Index := 18#32
  let c0_4100 : Index := 0#32
  let c0_4101 : Index := 0#32
  ![v5226.toNat, 18, 0, 0]
def k0_off84 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5321 : Index := Scalar.indexCast v3375
  let c19_4126 : Index := 19#32
  let c0_4127 : Index := 0#32
  let c0_4128 : Index := 0#32
  ![v5321.toNat, 19, 0, 0]
def k0_off85 (i : grid0.Coords) (k0_t3 : Fin (k0_t3_loop i).trips) : Fin 4 → Nat :=
  let c0_i32_7 : BitVec 32 := 0#32
  let c0_i32_8 : BitVec 32 := 0#32
  let c1_i32_10 : BitVec 32 := 1#32
  let arg12 : BitVec 32 := Scf.iv c0_i32_8 c1_i32_10 k0_t3
  let c1_i32_6 : BitVec 32 := 1#32
  let v3374 : BitVec 32 := Scalar.muli arg12 c1_i32_6
  let v3375 : BitVec 32 := Scalar.addi c0_i32_7 v3374
  let v5325 : Index := Scalar.indexCast v3375
  let c19_4129 : Index := 19#32
  let c0_4130 : Index := 0#32
  let c0_4131 : Index := 0#32
  ![v5325.toNat, 19, 0, 0]
@[reducible] def k0_t4_loop (i : grid0.Coords) : Scf.Loop 32 :=
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let v17 : BitVec 32 := Scalar.addi c0_i32_8 v16
  let c1_i32_11 : BitVec 32 := 1#32
  ⟨v20, v17, c1_i32_11⟩
def k0_mult4 (i : grid0.Coords) (k0_t4 : Fin (k0_t4_loop i).trips) : BitVec 32 :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let c128_i32 : BitVec 32 := 128#32
  let v3376 : BitVec 32 := Scalar.muli v3375 c128_i32
  v3376
def k0_off86 (i : grid0.Coords) (k0_t4 : Fin (k0_t4_loop i).trips) : Fin 2 → Nat :=
  let c0_3535 : Index := 0#32
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let c128_i32 : BitVec 32 := 128#32
  let v3376 : BitVec 32 := Scalar.muli v3375 c128_i32
  let v3377 : BitVec 32 := v3376
  let v3378 : Index := Scalar.indexCast v3377
  ![0, v3378.toNat]
def k0_off87 (i : grid0.Coords) (k0_t4 : Fin (k0_t4_loop i).trips) : Fin 2 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3385 : Index := Scalar.indexCast v3375
  let c0_3537 : Index := 0#32
  ![v3385.toNat, 0]
def k0_off88 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3404 : Index := Scalar.indexCast v3375
  let c0_3544 : Index := 0#32
  let c0_3545 : Index := 0#32
  let c0_3546 : Index := 0#32
  ![v3404.toNat, 0, 0, 0]
def k0_off89 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3440 : Index := Scalar.indexCast v3375
  let c0_3556 : Index := 0#32
  let c0_3557 : Index := 0#32
  let c0_3558 : Index := 0#32
  ![v3440.toNat, 0, 0, 0]
def k0_off90 (i : grid0.Coords) (k0_t4 : Fin (k0_t4_loop i).trips) : Fin 2 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3486 : Index := Scalar.indexCast v3375
  let c0_3566 : Index := 0#32
  ![v3486.toNat, 0]
def k0_off91 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3539 : Index := Scalar.indexCast v3375
  let c1_3586 : Index := 1#32
  let c0_3587 : Index := 0#32
  let c0_3588 : Index := 0#32
  ![v3539.toNat, 1, 0, 0]
def k0_off92 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3543 : Index := Scalar.indexCast v3375
  let c1_3589 : Index := 1#32
  let c0_3590 : Index := 0#32
  let c0_3591 : Index := 0#32
  ![v3543.toNat, 1, 0, 0]
def k0_off93 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3638 : Index := Scalar.indexCast v3375
  let c2_3616 : Index := 2#32
  let c0_3617 : Index := 0#32
  let c0_3618 : Index := 0#32
  ![v3638.toNat, 2, 0, 0]
def k0_off94 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3642 : Index := Scalar.indexCast v3375
  let c2_3619 : Index := 2#32
  let c0_3620 : Index := 0#32
  let c0_3621 : Index := 0#32
  ![v3642.toNat, 2, 0, 0]
def k0_off95 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3737 : Index := Scalar.indexCast v3375
  let c3_3646 : Index := 3#32
  let c0_3647 : Index := 0#32
  let c0_3648 : Index := 0#32
  ![v3737.toNat, 3, 0, 0]
def k0_off96 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3741 : Index := Scalar.indexCast v3375
  let c3_3649 : Index := 3#32
  let c0_3650 : Index := 0#32
  let c0_3651 : Index := 0#32
  ![v3741.toNat, 3, 0, 0]
def k0_off97 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3836 : Index := Scalar.indexCast v3375
  let c4_3676 : Index := 4#32
  let c0_3677 : Index := 0#32
  let c0_3678 : Index := 0#32
  ![v3836.toNat, 4, 0, 0]
def k0_off98 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3840 : Index := Scalar.indexCast v3375
  let c4_3679 : Index := 4#32
  let c0_3680 : Index := 0#32
  let c0_3681 : Index := 0#32
  ![v3840.toNat, 4, 0, 0]
def k0_off99 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3935 : Index := Scalar.indexCast v3375
  let c5_3706 : Index := 5#32
  let c0_3707 : Index := 0#32
  let c0_3708 : Index := 0#32
  ![v3935.toNat, 5, 0, 0]
def k0_off100 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v3939 : Index := Scalar.indexCast v3375
  let c5_3709 : Index := 5#32
  let c0_3710 : Index := 0#32
  let c0_3711 : Index := 0#32
  ![v3939.toNat, 5, 0, 0]
def k0_off101 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4034 : Index := Scalar.indexCast v3375
  let c6_3736 : Index := 6#32
  let c0_3737 : Index := 0#32
  let c0_3738 : Index := 0#32
  ![v4034.toNat, 6, 0, 0]
def k0_off102 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4038 : Index := Scalar.indexCast v3375
  let c6_3739 : Index := 6#32
  let c0_3740 : Index := 0#32
  let c0_3741 : Index := 0#32
  ![v4038.toNat, 6, 0, 0]
def k0_off103 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4133 : Index := Scalar.indexCast v3375
  let c7_3766 : Index := 7#32
  let c0_3767 : Index := 0#32
  let c0_3768 : Index := 0#32
  ![v4133.toNat, 7, 0, 0]
def k0_off104 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4137 : Index := Scalar.indexCast v3375
  let c7_3769 : Index := 7#32
  let c0_3770 : Index := 0#32
  let c0_3771 : Index := 0#32
  ![v4137.toNat, 7, 0, 0]
def k0_off105 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4232 : Index := Scalar.indexCast v3375
  let c8_3796 : Index := 8#32
  let c0_3797 : Index := 0#32
  let c0_3798 : Index := 0#32
  ![v4232.toNat, 8, 0, 0]
def k0_off106 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4236 : Index := Scalar.indexCast v3375
  let c8_3799 : Index := 8#32
  let c0_3800 : Index := 0#32
  let c0_3801 : Index := 0#32
  ![v4236.toNat, 8, 0, 0]
def k0_off107 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4331 : Index := Scalar.indexCast v3375
  let c9_3826 : Index := 9#32
  let c0_3827 : Index := 0#32
  let c0_3828 : Index := 0#32
  ![v4331.toNat, 9, 0, 0]
def k0_off108 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4335 : Index := Scalar.indexCast v3375
  let c9_3829 : Index := 9#32
  let c0_3830 : Index := 0#32
  let c0_3831 : Index := 0#32
  ![v4335.toNat, 9, 0, 0]
def k0_off109 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4430 : Index := Scalar.indexCast v3375
  let c10_3856 : Index := 10#32
  let c0_3857 : Index := 0#32
  let c0_3858 : Index := 0#32
  ![v4430.toNat, 10, 0, 0]
def k0_off110 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4434 : Index := Scalar.indexCast v3375
  let c10_3859 : Index := 10#32
  let c0_3860 : Index := 0#32
  let c0_3861 : Index := 0#32
  ![v4434.toNat, 10, 0, 0]
def k0_off111 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4529 : Index := Scalar.indexCast v3375
  let c11_3886 : Index := 11#32
  let c0_3887 : Index := 0#32
  let c0_3888 : Index := 0#32
  ![v4529.toNat, 11, 0, 0]
def k0_off112 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4533 : Index := Scalar.indexCast v3375
  let c11_3889 : Index := 11#32
  let c0_3890 : Index := 0#32
  let c0_3891 : Index := 0#32
  ![v4533.toNat, 11, 0, 0]
def k0_off113 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4628 : Index := Scalar.indexCast v3375
  let c12_3916 : Index := 12#32
  let c0_3917 : Index := 0#32
  let c0_3918 : Index := 0#32
  ![v4628.toNat, 12, 0, 0]
def k0_off114 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4632 : Index := Scalar.indexCast v3375
  let c12_3919 : Index := 12#32
  let c0_3920 : Index := 0#32
  let c0_3921 : Index := 0#32
  ![v4632.toNat, 12, 0, 0]
def k0_off115 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4727 : Index := Scalar.indexCast v3375
  let c13_3946 : Index := 13#32
  let c0_3947 : Index := 0#32
  let c0_3948 : Index := 0#32
  ![v4727.toNat, 13, 0, 0]
def k0_off116 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4731 : Index := Scalar.indexCast v3375
  let c13_3949 : Index := 13#32
  let c0_3950 : Index := 0#32
  let c0_3951 : Index := 0#32
  ![v4731.toNat, 13, 0, 0]
def k0_off117 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4826 : Index := Scalar.indexCast v3375
  let c14_3976 : Index := 14#32
  let c0_3977 : Index := 0#32
  let c0_3978 : Index := 0#32
  ![v4826.toNat, 14, 0, 0]
def k0_off118 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4830 : Index := Scalar.indexCast v3375
  let c14_3979 : Index := 14#32
  let c0_3980 : Index := 0#32
  let c0_3981 : Index := 0#32
  ![v4830.toNat, 14, 0, 0]
def k0_off119 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4925 : Index := Scalar.indexCast v3375
  let c15_4006 : Index := 15#32
  let c0_4007 : Index := 0#32
  let c0_4008 : Index := 0#32
  ![v4925.toNat, 15, 0, 0]
def k0_off120 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v4929 : Index := Scalar.indexCast v3375
  let c15_4009 : Index := 15#32
  let c0_4010 : Index := 0#32
  let c0_4011 : Index := 0#32
  ![v4929.toNat, 15, 0, 0]
def k0_off121 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5024 : Index := Scalar.indexCast v3375
  let c16_4036 : Index := 16#32
  let c0_4037 : Index := 0#32
  let c0_4038 : Index := 0#32
  ![v5024.toNat, 16, 0, 0]
def k0_off122 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5028 : Index := Scalar.indexCast v3375
  let c16_4039 : Index := 16#32
  let c0_4040 : Index := 0#32
  let c0_4041 : Index := 0#32
  ![v5028.toNat, 16, 0, 0]
def k0_off123 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5123 : Index := Scalar.indexCast v3375
  let c17_4066 : Index := 17#32
  let c0_4067 : Index := 0#32
  let c0_4068 : Index := 0#32
  ![v5123.toNat, 17, 0, 0]
def k0_off124 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5127 : Index := Scalar.indexCast v3375
  let c17_4069 : Index := 17#32
  let c0_4070 : Index := 0#32
  let c0_4071 : Index := 0#32
  ![v5127.toNat, 17, 0, 0]
def k0_off125 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5222 : Index := Scalar.indexCast v3375
  let c18_4096 : Index := 18#32
  let c0_4097 : Index := 0#32
  let c0_4098 : Index := 0#32
  ![v5222.toNat, 18, 0, 0]
def k0_off126 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5226 : Index := Scalar.indexCast v3375
  let c18_4099 : Index := 18#32
  let c0_4100 : Index := 0#32
  let c0_4101 : Index := 0#32
  ![v5226.toNat, 18, 0, 0]
def k0_off127 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5321 : Index := Scalar.indexCast v3375
  let c19_4126 : Index := 19#32
  let c0_4127 : Index := 0#32
  let c0_4128 : Index := 0#32
  ![v5321.toNat, 19, 0, 0]
def k0_off128 (i : grid0.Coords) (k0_t4 : Fin (k0_t4_loop i).trips) : Fin 4 → Nat :=
  let c0_i32_7 : BitVec 32 := 0#32
  let c0_i32_8 : BitVec 32 := 0#32
  let c8_i32_0 : BitVec 32 := 8#32
  let c86_i32 : BitVec 32 := 86#32
  let arg0 : BitVec 32 := BitVec.ofNat 32 (i 0).val
  let c8_i32 : BitVec 32 := 8#32
  let v0 : BitVec 32 := Scalar.muli arg0 c8_i32
  let v1 : BitVec 32 := Scalar.subi c86_i32 v0
  let v2 : BitVec 32 := Scalar.minsi c8_i32_0 v1
  let c0_i32_3 : BitVec 32 := 0#32
  let v12 : BitVec 32 := Scalar.subi v2 c0_i32_3
  let c1_i32 : BitVec 32 := 1#32
  let c1_i32_4 : BitVec 32 := 1#32
  let v13 : BitVec 32 := Scalar.subi c1_i32 c1_i32_4
  let v14 : BitVec 32 := Scalar.addi v12 v13
  let c1_i32_5 : BitVec 32 := 1#32
  let v15 : BitVec 32 := Scalar.divsi v14 c1_i32_5
  let v16 : BitVec 32 := Scalar.subi v15 c0_i32_8
  let c1_i32_9 : BitVec 32 := 1#32
  let v18 : BitVec 32 := Scalar.divsi v16 c1_i32_9
  let v19 : BitVec 32 := Scalar.muli v18 c1_i32_9
  let v20 : BitVec 32 := Scalar.addi c0_i32_8 v19
  let c1_i32_11 : BitVec 32 := 1#32
  let arg12 : BitVec 32 := Scf.iv v20 c1_i32_11 k0_t4
  let c1_i32_6 : BitVec 32 := 1#32
  let v3374 : BitVec 32 := Scalar.muli arg12 c1_i32_6
  let v3375 : BitVec 32 := Scalar.addi c0_i32_7 v3374
  let v5325 : Index := Scalar.indexCast v3375
  let c19_4129 : Index := 19#32
  let c0_4130 : Index := 0#32
  let c0_4131 : Index := 0#32
  ![v5325.toNat, 19, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S20x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x20x64x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S20x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1x512x11008 : Shape := ⟨3, ![1, 512, 11008]⟩
abbrev S1x512 : Shape := ⟨2, ![1, 512]⟩
abbrev S4096x11008 : Shape := ⟨2, ![4096, 11008]⟩
abbrev S1x512x1 : Shape := ⟨3, ![1, 512, 1]⟩
abbrev S512x86x128 : Shape := ⟨3, ![512, 86, 128]⟩
abbrev S86x128x128 : Shape := ⟨3, ![86, 128, 128]⟩
abbrev S20 : Shape := ⟨1, ![20]⟩
abbrev S_ : Shape := ⟨0, ![]⟩
abbrev S4096x86x128 : Shape := ⟨3, ![4096, 86, 128]⟩
abbrev S4096x86 : Shape := ⟨2, ![4096, 86]⟩
abbrev S4096x86x1 : Shape := ⟨3, ![4096, 86, 1]⟩
abbrev S1x1x20 : Shape := ⟨3, ![1, 1, 20]⟩
abbrev S4096x86x20 : Shape := ⟨3, ![4096, 86, 20]⟩
abbrev S4096x86x1x128 : Shape := ⟨4, ![4096, 86, 1, 128]⟩
abbrev S4096x86x20x1 : Shape := ⟨4, ![4096, 86, 20, 1]⟩
abbrev S4096x86x20x128 : Shape := ⟨4, ![4096, 86, 20, 128]⟩
abbrev S86x128x4096x20 : Shape := ⟨4, ![86, 128, 4096, 20]⟩
abbrev S4096x86x20x64 : Shape := ⟨4, ![4096, 86, 20, 64]⟩

abbrev nBuf : Space → Nat
  | .hbm => 74
  | .vmem => 0
  | .smem => 0
  | _ => 0

abbrev bufTy : (tb : Table) → Fin (tcTables nBuf tb) → BufTy
  | .hbm, ⟨0, _⟩ => ⟨S1x512x11008, .f32⟩
  | .hbm, ⟨1, _⟩ => ⟨S1x512, .f32⟩
  | .hbm, ⟨2, _⟩ => ⟨S4096x11008, .bf16⟩
  | .hbm, ⟨3, _⟩ => ⟨S1x512x11008, .bf16⟩
  | .hbm, ⟨4, _⟩ => ⟨S1x512, .bf16⟩
  | .hbm, ⟨5, _⟩ => ⟨S1x512x1, .bf16⟩
  | .hbm, ⟨6, _⟩ => ⟨S1x512x11008, .bf16⟩
  | .hbm, ⟨7, _⟩ => ⟨S1x512x11008, .bf16⟩
  | .hbm, ⟨8, _⟩ => ⟨S512x86x128, .bf16⟩
  | .hbm, ⟨9, _⟩ => ⟨S86x128x128, .f32⟩
  | .hbm, ⟨10, _⟩ => ⟨S20, .f32⟩
  | .hbm, ⟨11, _⟩ => ⟨S_, .f32⟩
  | .hbm, ⟨12, _⟩ => ⟨S20, .f32⟩
  | .hbm, ⟨13, _⟩ => ⟨S20, .f32⟩
  | .hbm, ⟨14, _⟩ => ⟨S_, .f32⟩
  | .hbm, ⟨15, _⟩ => ⟨S20, .f32⟩
  | .hbm, ⟨16, _⟩ => ⟨S20, .f32⟩
  | .hbm, ⟨17, _⟩ => ⟨S4096x86x128, .bf16⟩
  | .hbm, ⟨18, _⟩ => ⟨S4096x86x128, .f32⟩
  | .hbm, ⟨19, _⟩ => ⟨S4096x86x128, .f32⟩
  | .hbm, ⟨20, _⟩ => ⟨S_, .f32⟩
  | .hbm, ⟨21, _⟩ => ⟨S4096x86, .f32⟩
  | .hbm, ⟨22, _⟩ => ⟨S4096x86x1, .f32⟩
  | .hbm, ⟨23, _⟩ => ⟨S_, .f32⟩
  | .hbm, ⟨24, _⟩ => ⟨S4096x86x1, .f32⟩
  | .hbm, ⟨25, _⟩ => ⟨S4096x86x1, .i1⟩
  | .hbm, ⟨26, _⟩ => ⟨S1x1x20, .f32⟩
  | .hbm, ⟨27, _⟩ => ⟨S4096x86x20, .f32⟩
  | .hbm, ⟨28, _⟩ => ⟨S4096x86x20, .f32⟩
  | .hbm, ⟨29, _⟩ => ⟨S4096x86x20, .f32⟩
  | .hbm, ⟨30, _⟩ => ⟨S_, .f32⟩
  | .hbm, ⟨31, _⟩ => ⟨S4096x86x20, .f32⟩
  | .hbm, ⟨32, _⟩ => ⟨S4096x86x20, .f32⟩
  | .hbm, ⟨33, _⟩ => ⟨S_, .f32⟩
  | .hbm, ⟨34, _⟩ => ⟨S4096x86x20, .i1⟩
  | .hbm, ⟨35, _⟩ => ⟨S4096x86x20, .f32⟩
  | .hbm, ⟨36, _⟩ => ⟨S4096x86x20, .f32⟩
  | .hbm, ⟨37, _⟩ => ⟨S4096x86x1x128, .f32⟩
  | .hbm, ⟨38, _⟩ => ⟨S4096x86x20x1, .f32⟩
  | .hbm, ⟨39, _⟩ => ⟨S4096x86x20x128, .f32⟩
  | .hbm, ⟨40, _⟩ => ⟨S4096x86x20x128, .f32⟩
  | .hbm, ⟨41, _⟩ => ⟨S4096x86x20x128, .f32⟩
  | .hbm, ⟨42, _⟩ => ⟨S4096x86x20x128, .f32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S4096x86x20x128, .f32⟩
  | .hbm, ⟨47, _⟩ => ⟨S4096x86x20x128, .f32⟩
  | .hbm, ⟨48, _⟩ => ⟨S_, .f32⟩
  | .hbm, ⟨49, _⟩ => ⟨S4096x86x20x128, .f32⟩
  | .hbm, ⟨50, _⟩ => ⟨S4096x86x20x128, .f32⟩
  | .hbm, ⟨51, _⟩ => ⟨S4096x86x20x128, .i32⟩
  | .hbm, ⟨52, _⟩ => ⟨S4096x86x1x128, .f32⟩
  | .hbm, ⟨53, _⟩ => ⟨S4096x86x20x128, .f32⟩
  | .hbm, ⟨54, _⟩ => ⟨S4096x86x20x1, .f32⟩
  | .hbm, ⟨55, _⟩ => ⟨S4096x86x20x128, .f32⟩
  | .hbm, ⟨56, _⟩ => ⟨S4096x86x20x128, .f32⟩
  | .hbm, ⟨57, _⟩ => ⟨S4096x86x20x128, .f32⟩
  | .hbm, ⟨58, _⟩ => ⟨S4096x86x20x128, .f32⟩
  | .hbm, ⟨59, _⟩ => ⟨S86x128x4096x20, .f32⟩
  | .hbm, ⟨60, _⟩ => ⟨S4096x86x20x128, .f32⟩
  | .hbm, ⟨61, _⟩ => ⟨S4096x86x20x128, .f32⟩
  | .hbm, ⟨62, _⟩ => ⟨S_, .f32⟩
  | .hbm, ⟨63, _⟩ => ⟨S4096x86x20, .f32⟩
  | .hbm, ⟨64, _⟩ => ⟨S_, .i32⟩
  | .hbm, ⟨65, _⟩ => ⟨S4096x86x20x128, .i32⟩
  | .hbm, ⟨66, _⟩ => ⟨S4096x86x20x128, .i32⟩
  | .hbm, ⟨67, _⟩ => ⟨S4096x86x20x64, .i32⟩
  | .hbm, ⟨68, _⟩ => ⟨S4096x86x20x64, .i32⟩
  | .hbm, ⟨69, _⟩ => ⟨S_, .i32⟩
  | .hbm, ⟨70, _⟩ => ⟨S4096x86x20x64, .i32⟩
  | .hbm, ⟨71, _⟩ => ⟨S4096x86x20x64, .i32⟩
  | .hbm, ⟨72, _⟩ => ⟨S4096x86x20x64, .i32⟩
  | .hbm, ⟨73, _⟩ => ⟨S4096x86x20x64, .i8⟩
  | _, _ => ⟨S1x512x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Proof.KernelRun.lean ====
module

public import proofs.«01_k».proof.Proof.Gen.Kernel.Loops
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The kernel's run, contents of the written buffers left open -/

/-- What one trip of the main loop holds: the weight block and the limb table at their contents, the packed codes and
    the three other scratch buffers at some contents. -/
abbrev held3 (c : Dev nD) (arg4 : Memref sig .tc .vmem S512x1024 .bf16) (arg6 : Memref sig .tc .vmem S8x20x64x512 .i8)
    (X4 : BufTy.Contents (Elt F) arg4.view.ty) (X8 : Buf (Elt F) ((Memref.whole cc0_scratch0).view.loc (c : Thread nD τ))) : sProp 𝕄 :=
  iprop((arg4.view.loc (c : Thread nD τ) ↦[arg4.view.set]{fullShare} X4) ∗ ((Memref.whole cc0_scratch0).view.loc (c : Thread nD τ) ↦{fullShare} X8) ∗ (∃ f, (arg6.view.loc (c : Thread nD τ) ↦[arg6.view.set]{fullShare} f)) ∗ (∃ f, ((Memref.whole cc0_scratch1).view.loc (c : Thread nD τ) ↦{fullShare} f)) ∗ (∃ f, ((Memref.whole cc0_scratch2).view.loc (c : Thread nD τ) ↦{fullShare} f)) ∗ (∃ f, ((Memref.whole cc0_scratch3).view.loc (c : Thread nD τ) ↦{fullShare} f)))

set_option warn.classDefReducibility false in
set_option maxHeartbeats 4000000 in
/-- The main loop: every trip leaves those buffers held. -/
@[sl_loop] def loopInv_k0_t3 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole)
    (X4 : BufTy.Contents (Elt F) arg4.view.ty) (X8 : Buf (Elt F) ((Memref.whole cc0_scratch0).view.loc (c : Thread nD τ))) :
    LoopInvTy_k0_t3 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) where
  inv := fun _ _ => held3 (F := F) c arg4 arg6 X4 X8
  step := fun k acc => by
    unfold k0_t3_body
    iintro ⟨H4, H8, ⟨%f6, H6⟩, ⟨%f9, H9⟩, ⟨%f10, H10⟩, ⟨%f11, H11⟩⟩
    sl_exec
    sl_step
    sl_close

set_option warn.classDefReducibility false in
set_option maxHeartbeats 4000000 in
/-- The remainder of the main loop likewise. -/
@[sl_loop] def loopInv_k0_t4 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (v20 : BitVec 32)
    (X4 : BufTy.Contents (Elt F) arg4.view.ty) (X8 : Buf (Elt F) ((Memref.whole cc0_scratch0).view.loc (c : Thread nD τ))) :
    LoopInvTy_k0_t4 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) v20 where
  inv := fun _ _ => held3 (F := F) c arg4 arg6 X4 X8
  step := fun k acc => by
    unfold k0_t4_body
    iintro ⟨H4, H8, ⟨%f6, H6⟩, ⟨%f9, H9⟩, ⟨%f10, H10⟩, ⟨%f11, H11⟩⟩
    sl_exec
    sl_step
    sl_close

/-- What one trip of the prologue loop holds: the activation block and its scales at their contents, the limb table at some. -/
abbrev held1 (c : Dev nD) (arg2 : Memref sig .tc .vmem S512x1024 .fp8e4m3) (arg3 : Memref sig .tc .vmem S1x512 .f32)
    (X2 : BufTy.Contents (Elt F) arg2.view.ty) (X3 : BufTy.Contents (Elt F) arg3.view.ty) : sProp 𝕄 :=
  iprop((arg2.view.loc (c : Thread nD τ) ↦[arg2.view.set]{fullShare} X2) ∗ (arg3.view.loc (c : Thread nD τ) ↦[arg3.view.set]{fullShare} X3) ∗ (∃ f, ((Memref.whole cc0_scratch0).view.loc (c : Thread nD τ) ↦{fullShare} f)))

set_option warn.classDefReducibility false in
set_option maxHeartbeats 4000000 in
/-- The prologue loop: every trip leaves those buffers held. -/
@[sl_loop] def loopInv_k0_t1 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (k0_h1 : k0_cond1 i = 1#1)
    (X2 : BufTy.Contents (Elt F) arg2.view.ty) (X3 : BufTy.Contents (Elt F) arg3.view.ty) :
    LoopInvTy_k0_t1 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) k0_h1 where
  inv := fun _ _ => held1 (F := F) c arg2 arg3 X2 X3
  step := fun k acc => by
    unfold k0_t1_body
    iintro ⟨H2, H3, ⟨%f8, H8⟩⟩
    sl_exec
    sl_step
    sl_close

set_option warn.classDefReducibility false in
set_option maxHeartbeats 4000000 in
/-- The prologue loop likewise, its remainder. -/
@[sl_loop] def loopInv_k0_t2 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (k0_h1 : k0_cond1 i = 1#1) (v3382 : BitVec 32)
    (X2 : BufTy.Contents (Elt F) arg2.view.ty) (X3 : BufTy.Contents (Elt F) arg3.view.ty) :
    LoopInvTy_k0_t2 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) k0_h1 v3382 where
  inv := fun _ _ => held1 (F := F) c arg2 arg3 X2 X3
  step := fun k acc => by
    unfold k0_t2_body
    iintro ⟨H2, H3, ⟨%f8, H8⟩⟩
    sl_exec
    sl_step
    sl_close

set_option maxHeartbeats 8000000 in
/-- The kernel's body at one grid point. -/
theorem body_run (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (Y0 : Buf (Elt F) ((Memref.whole cc0_scratch0).view.loc (c : Thread nD τ))) (Y1 : Buf (Elt F) ((Memref.whole cc0_scratch1).view.loc (c : Thread nD τ))) (Y2 : Buf (Elt F) ((Memref.whole cc0_scratch2).view.loc (c : Thread nD τ))) (Y3 : Buf (Elt F) ((Memref.whole cc0_scratch3).view.loc (c : Thread nD τ))) (Q : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ((Memref.whole cc0_scratch0).view.loc (c : Thread nD τ) ↦{fullShare} Y0) ∗ ((Memref.whole cc0_scratch1).view.loc (c : Thread nD τ) ↦{fullShare} Y1) ∗ ((Memref.whole cc0_scratch2).view.loc (c : Thread nD τ) ↦{fullShare} Y2) ∗ ((Memref.whole cc0_scratch3).view.loc (c : Thread nD τ) ↦{fullShare} Y3)
      ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, ((Memref.whole cc0_scratch0).view.loc (c : Thread nD τ) ↦{fullShare} f)) ∗ (∃ f, ((Memref.whole cc0_scratch1).view.loc (c : Thread nD τ) ↦{fullShare} f)) ∗ (∃ f, ((Memref.whole cc0_scratch2).view.loc (c : Thread nD τ) ↦{fullShare} f)) ∗ (∃ f, ((Memref.whole cc0_scratch3).view.loc (c : Thread nD τ) ↦{fullShare} f))) -∗ Q ⟨⟩))
    ⊢ wp frame (wpE (defs₀ (F := F)) Variants.none (c : Thread nD τ) none) Set.univ (cc0_awq_clip (F := F) i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _)) Q := by
  iintro ⟨H2, H3, H4, H5, H6, H7, H8, H9, H10, H11, Hk⟩
  by_cases hc : k0_cond1 i = 1#1
  · sl_exec
    sl_step
    iapply Hk
    sl_close
  · sl_exec
    sl_step
    iapply Hk
    sl_close

end Cert.Kernel.Hand

end
-- ==== Proof.KernelFrame.lean ====
module

public import proofs.«01_k».proof.Proof.KernelRun
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame: the arguments are left as they were, and every semaphore ends at zero -/

/-- The proof data: the arrays as the region finds them; what the windows' buffers hold is forgotten. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- Every window is forgotten. -/
abbrev forgets : Fin cfg0.W → Bool := fun _ => true

theorem defs₀_row (t : Fin cfg0.N) :
    defs₀ (F := F) .tc cfg0.body (cfg0.bodyArgs t (cfg0.slots t)) = bodyAt0 t := by
  unfold defs₀; rw [Defs.onTc_tc]

/-- One window's buffer at some contents. -/
abbrev some (c : Dev nD) (t : Fin cfg0.N) (w : Fin 6) : sProp 𝕄 :=
  iprop(∃ X, owns c ((cfg0.win w).stage (cfg0.slots t w)) fullShare X)

/-- The body at every point, its windows' buffers and the scratch at some contents before and after. -/
theorem sound_body (c : Dev nD) (t : Fin cfg0.N) :
    iprop((dats (F := F) m 0 c).Φ t.castSucc ∗ (dats (F := F) m 0 c).owesAt () t.castSucc
        ∗ some c t 0 ∗ some c t 1 ∗ some c t 2 ∗ some c t 3 ∗ some c t 4 ∗ some c t 5)
      ⊢ wp frame (wpE (defs₀ (F := F)) Variants.none (c : Thread nD τ) none) Set.univ (bodyAt0 (F := F) t) fun _ =>
        iprop((dats (F := F) m 0 c).Φ t.succ ∗ (dats (F := F) m 0 c).owesAt () t.succ
        ∗ some c t 0 ∗ some c t 1 ∗ some c t 2 ∗ some c t 3 ∗ some c t 4 ∗ some c t 5) := by
  simp only [dats, Pipeline.ΦA]
  rw [scopedRest0_eq]
  unfold bodyAt0 some owns
  iintro ⟨⟨⟨⟨%Y0, S0⟩, ⟨%Y1, S1⟩, ⟨%Y2, S2⟩, ⟨%Y3, S3⟩⟩, Hg⟩, Hw, ⟨%x2, %X2, %h2, H2⟩, ⟨%x3, %X3, %h3, H3⟩, ⟨%x4, %X4, %h4, H4⟩, ⟨%x5, %X5, %h5, H5⟩, ⟨%x6, %X6, %h6, H6⟩, ⟨%x7, %X7, %h7, H7⟩⟩
  iapply (body_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) X2 X3 X4 X5 X6 X7 Y0 Y1 Y2 Y3 _)
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  iintro ⟨H2, H3, H4, ⟨%Z5, H5⟩, ⟨%Z6, H6⟩, ⟨%Z7, H7⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Hw]; · iexact Hw
  isplitl [H2]; · iexists _; iexists X2; isplitr; · ipureintro; exact rfl
                  iexact H2
  isplitl [H3]; · iexists _; iexists X3; isplitr; · ipureintro; exact rfl
                  iexact H3
  isplitl [H4]; · iexists _; iexists X4; isplitr; · ipureintro; exact rfl
                  iexact H4
  isplitl [H5]; · iexists _; iexists Z5; isplitr; · ipureintro; exact rfl
                  iexact H5
  isplitl [H6]; · iexists _; iexists Z6; isplitr; · ipureintro; exact rfl
                  iexact H6
  iexists _; iexists Z7; isplitr; · ipureintro; exact rfl
  iexact H7

theorem body_obligation (c : Dev nD) :
    BodyObligationLoose (dats (F := F) m 0 c) (defs₀ (F := F)) Variants.none () Set.univ forgets := fun t => by
  rw [bigSep_W0, defs₀_row]
  exact triple_restated (sound_body m c t) rfl .rfl fun _ => .rfl

/-- The results the host lines after the region write. -/
def tailWrites : Finset (Ref sig .tc) := {main_v3, main_v4, main_v5}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.unary_writes, Finset.mem_singleton] at hb
    rw [Proc.devRef_injective _ hb]
    decide

/-- THE FRAME, at any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m) (0 : Fin 1) launch0 defs₀ Variants.none forgets tailWrites m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)
    (Q' := _) (hQ' := fun r h => ⟨fun c =>
      ⟨((h.1 c).2 main_arg0 (Finset.mem_sdiff.mpr ⟨Pipeline.mem_restRefs_of main_arg0 (by decide) (by decide), by decide⟩)).trans (V_main_arg0 m c),
       (Pipeline.RDat.FramePostR.arr_in h.1 c (1 : Fin 6) rfl).trans (V_main_arg1 m c),
       (Pipeline.RDat.FramePostR.arr_in h.1 c (2 : Fin 6) rfl).trans (V_main_arg2 m c)⟩, h.2⟩)

end Cert.Kernel.Hand

end
-- ==== Proof.KernelIdealRun.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The kernel's run, contents of the written buffers left open -/

/-- What one trip of the main loop holds: the weight block and the limb table at their contents, the packed codes and
    the three other scratch buffers at some contents. -/
abbrev held3 (c : Dev nD) (arg4 : Memref sig .tc .vmem S512x1024 .bf16) (arg6 : Memref sig .tc .vmem S8x20x64x512 .i8)
    (X4 : BufTy.Contents (Elt F) arg4.view.ty) (X8 : Buf (Elt F) ((Memref.whole cc0_scratch0).view.loc (c : Thread nD τ))) : sProp 𝕄 :=
  iprop((arg4.view.loc (c : Thread nD τ) ↦[arg4.view.set]{fullShare} X4) ∗ ((Memref.whole cc0_scratch0).view.loc (c : Thread nD τ) ↦{fullShare} X8) ∗ (∃ f, (arg6.view.loc (c : Thread nD τ) ↦[arg6.view.set]{fullShare} f)) ∗ (∃ f, ((Memref.whole cc0_scratch1).view.loc (c : Thread nD τ) ↦{fullShare} f)) ∗ (∃ f, ((Memref.whole cc0_scratch2).view.loc (c : Thread nD τ) ↦{fullShare} f)) ∗ (∃ f, ((Memref.whole cc0_scratch3).view.loc (c : Thread nD τ) ↦{fullShare} f)))

set_option warn.classDefReducibility false in
set_option maxHeartbeats 4000000 in
/-- The main loop: every trip leaves those buffers held. -/
@[sl_loop] def loopInv_k0_t3 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole)
    (X4 : BufTy.Contents (Elt F) arg4.view.ty) (X8 : Buf (Elt F) ((Memref.whole cc0_scratch0).view.loc (c : Thread nD τ))) :
    LoopInvTy_k0_t3 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) where
  inv := fun _ _ => held3 (F := F) c arg4 arg6 X4 X8
  step := fun k acc => by
    unfold k0_t3_body
    iintro ⟨H4, H8, ⟨%f6, H6⟩, ⟨%f9, H9⟩, ⟨%f10, H10⟩, ⟨%f11, H11⟩⟩
    sl_exec
    sl_step
    sl_close

set_option warn.classDefReducibility false in
set_option maxHeartbeats 4000000 in
/-- The remainder of the main loop likewise. -/
@[sl_loop] def loopInv_k0_t4 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (v20 : BitVec 32)
    (X4 : BufTy.Contents (Elt F) arg4.view.ty) (X8 : Buf (Elt F) ((Memref.whole cc0_scratch0).view.loc (c : Thread nD τ))) :
    LoopInvTy_k0_t4 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) v20 where
  inv := fun _ _ => held3 (F := F) c arg4 arg6 X4 X8
  step := fun k acc => by
    unfold k0_t4_body
    iintro ⟨H4, H8, ⟨%f6, H6⟩, ⟨%f9, H9⟩, ⟨%f10, H10⟩, ⟨%f11, H11⟩⟩
    sl_exec
    sl_step
    sl_close

/-- What one trip of the prologue loop holds: the activation block and its scales at their contents, the limb table at some. -/
abbrev held1 (c : Dev nD) (arg2 : Memref sig .tc .vmem S512x1024 .fp8e4m3) (arg3 : Memref sig .tc .vmem S1x512 .f32)
    (X2 : BufTy.Contents (Elt F) arg2.view.ty) (X3 : BufTy.Contents (Elt F) arg3.view.ty) : sProp 𝕄 :=
  iprop((arg2.view.loc (c : Thread nD τ) ↦[arg2.view.set]{fullShare} X2) ∗ (arg3.view.loc (c : Thread nD τ) ↦[arg3.view.set]{fullShare} X3) ∗ (∃ f, ((Memref.whole cc0_scratch0).view.loc (c : Thread nD τ) ↦{fullShare} f)))

set_option warn.classDefReducibility false in
set_option maxHeartbeats 4000000 in
/-- The prologue loop: every trip leaves those buffers held. -/
@[sl_loop] def loopInv_k0_t1 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (k0_h1 : k0_cond1 i = 1#1)
    (X2 : BufTy.Contents (Elt F) arg2.view.ty) (X3 : BufTy.Contents (Elt F) arg3.view.ty) :
    LoopInvTy_k0_t1 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) k0_h1 where
  inv := fun _ _ => held1 (F := F) c arg2 arg3 X2 X3
  step := fun k acc => by
    unfold k0_t1_body
    iintro ⟨H2, H3, ⟨%f8, H8⟩⟩
    sl_exec
    sl_step
    sl_close

set_option warn.classDefReducibility false in
set_option maxHeartbeats 4000000 in
/-- The prologue loop likewise, its remainder. -/
@[sl_loop] def loopInv_k0_t2 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (k0_h1 : k0_cond1 i = 1#1) (v3382 : BitVec 32)
    (X2 : BufTy.Contents (Elt F) arg2.view.ty) (X3 : BufTy.Contents (Elt F) arg3.view.ty) :
    LoopInvTy_k0_t2 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) k0_h1 v3382 where
  inv := fun _ _ => held1 (F := F) c arg2 arg3 X2 X3
  step := fun k acc => by
    unfold k0_t2_body
    iintro ⟨H2, H3, ⟨%f8, H8⟩⟩
    sl_exec
    sl_step
    sl_close

set_option maxHeartbeats 8000000 in
/-- The kernel's body at one grid point. -/
theorem body_run (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (Y0 : Buf (Elt F) ((Memref.whole cc0_scratch0).view.loc (c : Thread nD τ))) (Y1 : Buf (Elt F) ((Memref.whole cc0_scratch1).view.loc (c : Thread nD τ))) (Y2 : Buf (Elt F) ((Memref.whole cc0_scratch2).view.loc (c : Thread nD τ))) (Y3 : Buf (Elt F) ((Memref.whole cc0_scratch3).view.loc (c : Thread nD τ))) (Q : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ((Memref.whole cc0_scratch0).view.loc (c : Thread nD τ) ↦{fullShare} Y0) ∗ ((Memref.whole cc0_scratch1).view.loc (c : Thread nD τ) ↦{fullShare} Y1) ∗ ((Memref.whole cc0_scratch2).view.loc (c : Thread nD τ) ↦{fullShare} Y2) ∗ ((Memref.whole cc0_scratch3).view.loc (c : Thread nD τ) ↦{fullShare} Y3)
      ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, ((Memref.whole cc0_scratch0).view.loc (c : Thread nD τ) ↦{fullShare} f)) ∗ (∃ f, ((Memref.whole cc0_scratch1).view.loc (c : Thread nD τ) ↦{fullShare} f)) ∗ (∃ f, ((Memref.whole cc0_scratch2).view.loc (c : Thread nD τ) ↦{fullShare} f)) ∗ (∃ f, ((Memref.whole cc0_scratch3).view.loc (c : Thread nD τ) ↦{fullShare} f))) -∗ Q ⟨⟩))
    ⊢ wp frame (wpE (defs₀ (F := F)) Variants.none (c : Thread nD τ) none) Set.univ (cc0_awq_clip (F := F) i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _)) Q := by
  iintro ⟨H2, H3, H4, H5, H6, H7, H8, H9, H10, H11, Hk⟩
  by_cases hc : k0_cond1 i = 1#1
  · sl_exec
    sl_step
    iapply Hk
    sl_close
  · sl_exec
    sl_step
    iapply Hk
    sl_close

end Cert.KernelIdeal.Hand

end
-- ==== Proof.KernelIdealFrame.lean ====
module

public import proofs.«01_k».proof.Proof.KernelIdealRun
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame: the arguments are left as they were, and every semaphore ends at zero -/

/-- The proof data: the arrays as the region finds them; what the windows' buffers hold is forgotten. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- Every window is forgotten. -/
abbrev forgets : Fin cfg0.W → Bool := fun _ => true

theorem defs₀_row (t : Fin cfg0.N) :
    defs₀ (F := F) .tc cfg0.body (cfg0.bodyArgs t (cfg0.slots t)) = bodyAt0 t := by
  unfold defs₀; rw [Defs.onTc_tc]

/-- One window's buffer at some contents. -/
abbrev some (c : Dev nD) (t : Fin cfg0.N) (w : Fin 6) : sProp 𝕄 :=
  iprop(∃ X, owns c ((cfg0.win w).stage (cfg0.slots t w)) fullShare X)

/-- The body at every point, its windows' buffers and the scratch at some contents before and after. -/
theorem sound_body (c : Dev nD) (t : Fin cfg0.N) :
    iprop((dats (F := F) m 0 c).Φ t.castSucc ∗ (dats (F := F) m 0 c).owesAt () t.castSucc
        ∗ some c t 0 ∗ some c t 1 ∗ some c t 2 ∗ some c t 3 ∗ some c t 4 ∗ some c t 5)
      ⊢ wp frame (wpE (defs₀ (F := F)) Variants.none (c : Thread nD τ) none) Set.univ (bodyAt0 (F := F) t) fun _ =>
        iprop((dats (F := F) m 0 c).Φ t.succ ∗ (dats (F := F) m 0 c).owesAt () t.succ
        ∗ some c t 0 ∗ some c t 1 ∗ some c t 2 ∗ some c t 3 ∗ some c t 4 ∗ some c t 5) := by
  simp only [dats, Pipeline.ΦA]
  rw [scopedRest0_eq]
  unfold bodyAt0 some owns
  iintro ⟨⟨⟨⟨%Y0, S0⟩, ⟨%Y1, S1⟩, ⟨%Y2, S2⟩, ⟨%Y3, S3⟩⟩, Hg⟩, Hw, ⟨%x2, %X2, %h2, H2⟩, ⟨%x3, %X3, %h3, H3⟩, ⟨%x4, %X4, %h4, H4⟩, ⟨%x5, %X5, %h5, H5⟩, ⟨%x6, %X6, %h6, H6⟩, ⟨%x7, %X7, %h7, H7⟩⟩
  iapply (body_run (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) X2 X3 X4 X5 X6 X7 Y0 Y1 Y2 Y3 _)
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  iintro ⟨H2, H3, H4, ⟨%Z5, H5⟩, ⟨%Z6, H6⟩, ⟨%Z7, H7⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Hw]; · iexact Hw
  isplitl [H2]; · iexists _; iexists X2; isplitr; · ipureintro; exact rfl
                  iexact H2
  isplitl [H3]; · iexists _; iexists X3; isplitr; · ipureintro; exact rfl
                  iexact H3
  isplitl [H4]; · iexists _; iexists X4; isplitr; · ipureintro; exact rfl
                  iexact H4
  isplitl [H5]; · iexists _; iexists Z5; isplitr; · ipureintro; exact rfl
                  iexact H5
  isplitl [H6]; · iexists _; iexists Z6; isplitr; · ipureintro; exact rfl
                  iexact H6
  iexists _; iexists Z7; isplitr; · ipureintro; exact rfl
  iexact H7

theorem body_obligation (c : Dev nD) :
    BodyObligationLoose (dats (F := F) m 0 c) (defs₀ (F := F)) Variants.none () Set.univ forgets := fun t => by
  rw [bigSep_W0, defs₀_row]
  exact triple_restated (sound_body m c t) rfl .rfl fun _ => .rfl

/-- The results the host lines after the region write. -/
def tailWrites : Finset (Ref sig .tc) := {main_v3, main_v4, main_v5}

theorem tail_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.unary_writes, Finset.mem_singleton] at hb
    rw [Proc.devRef_injective _ hb]
    decide

/-- THE FRAME, at any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m) (0 : Fin 1) launch0 defs₀ Variants.none forgets tailWrites m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)
    (Q' := _) (hQ' := fun r h => ⟨fun c =>
      ⟨((h.1 c).2 main_arg0 (Finset.mem_sdiff.mpr ⟨Pipeline.mem_restRefs_of main_arg0 (by decide) (by decide), by decide⟩)).trans (V_main_arg0 m c),
       (Pipeline.RDat.FramePostR.arr_in h.1 c (1 : Fin 6) rfl).trans (V_main_arg1 m c),
       (Pipeline.RDat.FramePostR.arr_in h.1 c (2 : Fin 6) rfl).trans (V_main_arg2 m c)⟩, h.2⟩)

end Cert.KernelIdeal.Hand

end
-- ==== Proof.KernelIdealTrip.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.ValueLayout

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # Closed forms of what one trip of the kernel's two loops stores -/

/-- The group number of a trip, as the kernel's words compute it. -/
def gw (k : ℕ) : ℕ := (Scalar.indexCast (Scalar.addi 0#32 (Scalar.muli (Scf.iv 0#32 1#32 k) 1#32)) : Index).toNat

theorem gw_eq {k : ℕ} (h : k < 8) : gw k = k := by
  interval_cases k <;> rfl

/-- The first column of a trip's group, as the kernel's words compute it. -/
def gw128 (k : ℕ) : ℕ := (Scalar.indexCast (Scalar.muli (Scalar.addi 0#32 (Scalar.muli (Scf.iv 0#32 1#32 k) 1#32)) 128#32) : Index).toNat

theorem gw128_eq {k : ℕ} (h : k < 8) : gw128 k = 128 * k := by
  interval_cases k <;> rfl

theorem inb_row24 (n : Fin 20) : ∀ a, (![n.val, 0] : Fin 2 → ℕ) a + S1x512.size a ≤ S24x512.size a := by
  intro a; have := n.isLt
  match a with
  | ⟨0, _⟩ => show n.val + 1 ≤ 24; omega
  | ⟨1, _⟩ => show 0 + 512 ≤ 512; omega

theorem inb_gram (z : ℕ) (hz : z < 8) (n : Fin 20) : ∀ a, (![z, n.val, 0, 0] : Fin 4 → ℕ) a + S1x1x128x384.size a ≤ S8x20x128x384.size a := by
  intro a; have := n.isLt
  match a with
  | ⟨0, _⟩ => show z + 1 ≤ 8; omega
  | ⟨1, _⟩ => show n.val + 1 ≤ 20; omega
  | ⟨2, _⟩ => show 0 + 128 ≤ 128; omega
  | ⟨3, _⟩ => show 0 + 384 ≤ 384; omega

theorem inb_code (z : ℕ) (hz : z < 8) (n : Fin 20) : ∀ a, (![z, n.val, 0, 0] : Fin 4 → ℕ) a + S1x1x64x512.size a ≤ S8x20x64x512.size a := by
  intro a; have := n.isLt
  match a with
  | ⟨0, _⟩ => show z + 1 ≤ 8; omega
  | ⟨1, _⟩ => show n.val + 1 ≤ 20; omega
  | ⟨2, _⟩ => show 0 + 64 ≤ 64; omega
  | ⟨3, _⟩ => show 0 + 512 ≤ 512; omega

/-- The reciprocal scales of a weight block, one row per clipping ratio. -/
def invP (W : Vec F S512x128 .bf16) : FVec F S24x512 .f32 := k0_pay78 k0_pay684 W

/-- Row `n` of them as the kernel reads it back. -/
def rowP (W : Vec F S512x128 .bf16) (n : Fin 20) : Vec F S1x512 .f32 :=
  (Memref.whole cc0_scratch1).view.readCov [⟨Rect.unit (s := S24x512) ![0, 0] S24x512.size inb_S24x512_S24x512_0_0, invP W⟩]
    (Rect.unit (s := S24x512) ![n.val, 0] S1x512.size (inb_row24 n)).toLoadRect

/-- Plane `n` of group `z` of the limb table. -/
def gramP (X8 : (Memref.whole cc0_scratch0 : Memref sig .tc _ _ _).view.ty.Contents (Elt F)) (z : ℕ) (hz : z < 8) (n : Fin 20) : Vec F S1x1x128x384 .bf16 :=
  (Memref.whole cc0_scratch0).view.readAt (Elt F) (Rect.unit (s := S8x20x128x384) ![z, n.val, 0, 0] S1x1x128x384.size (inb_gram z hz n)).toLoadRect X8

/-- The packed codes of a weight block at ratio `n`. -/
def codeP (W : Vec F S512x128 .bf16) (n : Fin 20) : Vec F S1x1x64x512 .i8 := k0_pay82 (k0_pay75 W) (rowP W n)

/-- The smoothed products `(t - q) (h - y)` of a weight block at ratio `n`. -/
def prodP (W : Vec F S512x128 .bf16) (G0 Gn : Vec F S1x1x128x384 .bf16) (n : Fin 20) : FVec F S128x512 .f32 :=
  k0_pay83 (k0_pay75 W) (k0_pay79 W G0 (rowP W 0)) (rowP W n) Gn

/-- Eight partial sums of a block of products. -/
def partP (p : FVec F S128x512 .f32) : FVec F S8x512 .f32 :=
  k0_pay92 p (extractStridedSlice S8x512 ![0, 0] p slices_S128x512_o0_0_S8x512) (extractStridedSlice S8x512 ![8, 0] p slices_S128x512_o8_0_S8x512)
    (extractStridedSlice S8x512 ![16, 0] p slices_S128x512_o16_0_S8x512) (extractStridedSlice S8x512 ![24, 0] p slices_S128x512_o24_0_S8x512)
    (extractStridedSlice S8x512 ![32, 0] p slices_S128x512_o32_0_S8x512) (extractStridedSlice S8x512 ![40, 0] p slices_S128x512_o40_0_S8x512)
    (extractStridedSlice S8x512 ![48, 0] p slices_S128x512_o48_0_S8x512) (extractStridedSlice S8x512 ![56, 0] p slices_S128x512_o56_0_S8x512)

theorem slices_lane (l : Fin 4) : S8x512.Slices ![0, 128 * l.val] S8x128 := by
  match l with
  | ⟨0, _⟩ => exact slices_S8x512_o0_0_S8x128
  | ⟨1, _⟩ => exact slices_S8x512_o0_128_S8x128
  | ⟨2, _⟩ => exact slices_S8x512_o0_256_S8x128
  | ⟨3, _⟩ => exact slices_S8x512_o0_384_S8x128

/-- One quarter of the columns of the partial sums. -/
def laneP (q : FVec F S8x512 .f32) (l : Fin 4) : FVec F S8x128 .f32 :=
  shapeCast S8x128 (extractStridedSlice S8x128 ![0, 128 * l.val] q (slices_lane l)) shapeCasts_S8x128_S8x128

/-- The twenty ratios in the order a trip takes them, newest first. -/
def ratiosL : List (Fin 20) := [19, 18, 17, 16, 15, 14, 13, 12, 11, 10, 9, 8, 7, 6, 5, 4, 3, 2, 1, 0]

theorem mem_ratiosL (n : Fin 20) : n ∈ ratiosL := by
  revert n; decide

/-- The list of the code pieces a trip stores, newest first. -/
def codeL (W : Vec F S512x128 .bf16) (z : ℕ) (hz : z < 8) : List (View.Piece (Elt F) S8x20x64x512 .i8) :=
  List.map (fun n : Fin 20 => ⟨Rect.unit (s := S8x20x64x512) ![z, n.val, 0, 0] S1x1x64x512.size (inb_code z hz n), codeP W n⟩) ratiosL

theorem inb_slab (n : Fin 80) : ∀ a, (![n.val, 0, 0] : Fin 3 → ℕ) a + S1x72x128.size a ≤ S80x72x128.size a := by
  intro a; have := n.isLt
  match a with
  | ⟨0, _⟩ => show n.val + 1 ≤ 80; omega
  | ⟨1, _⟩ => show 0 + 72 ≤ 72; omega
  | ⟨2, _⟩ => show 0 + 128 ≤ 128; omega

theorem inb_strip (z : ℕ) (hz : z < 8) : ∀ a, S8x128.size a = 0 ∨ (![z, 0] : Fin 2 → ℕ) a + (![9, 1] : Fin 2 → ℕ) a * (S8x128.size a - 1) < S72x128.size a := by
  intro a
  match a with
  | ⟨0, _⟩ => exact Or.inr (by show z + 9 * (8 - 1) < 72; omega)
  | ⟨1, _⟩ => exact Or.inr (by show 0 + 1 * (128 - 1) < 128; omega)

theorem spos_strip : ∀ a, 0 < (![9, 1] : Fin 2 → ℕ) a := by
  intro a
  match a with
  | ⟨0, _⟩ => exact (by decide : 0 < 9)
  | ⟨1, _⟩ => exact (by decide : 0 < 1)

/-- Panel `n` of the slab. -/
def panel (n : Fin 80) : Memref sig .tc .vmem S72x128 .f32 :=
  ((Memref.whole cc0_scratch3).slice (Rect.unit (s := S80x72x128) ![n.val, 0, 0] S1x72x128.size (inb_slab n)) (fun _ => rfl)).squeeze S72x128 squeezes_S1x72x128_S72x128

/-- The rows `z, z + 9, …, z + 63` of a panel. -/
def strip (n : Fin 80) (z : ℕ) (hz : z < 8) : View sig .tc .vmem S8x128 .f32 :=
  (panel n).access ⟨⟨![z, 0], S8x128.size, ![9, 1], inb_strip z hz⟩, spos_strip⟩

/-- The slab after the strided stores of the panels `L`, newest first, `P` the stored tiles. -/
def slabW (z : ℕ) (hz : z < 8) (P : Fin 80 → FVec F S8x128 .f32) (f : (Memref.whole cc0_scratch3 : Memref sig .tc _ _ _).view.ty.Contents (Elt F)) :
    List (Fin 80) → (Memref.whole cc0_scratch3 : Memref sig .tc _ _ _).view.ty.Contents (Elt F)
  | [] => f
  | n :: L => View.write (Elt F) (strip n z hz) (slabW z hz P f L) (P n) Finset.univ

theorem panel_emb (n : Fin 80) (r : Fin 72) (x : Fin 128) : (panel n).view.emb (ix2 r x) = (ix3 n r x : S80x72x128.Idx) := by
  show (Rect.unit (s := S80x72x128) ![n.val, 0, 0] S1x72x128.size (inb_slab n)).emb (Shape.reshapeEquiv _ (ix2 r x)) = _
  rw [reshapeEquiv_ix2_1ab]
  funext a
  match a with
  | ⟨0, _⟩ => exact Fin.ext (by show n.val + 1 * 0 = n.val; omega)
  | ⟨1, _⟩ => exact Fin.ext (by show 0 + 1 * r.val = r.val; omega)
  | ⟨2, _⟩ => exact Fin.ext (by show 0 + 1 * x.val = x.val; omega)

theorem strip_emb (n : Fin 80) (z : ℕ) (hz : z < 8) (s : Fin 8) (x : Fin 128) :
    (strip n z hz).emb (ix2 s x) = (ix3 n ⟨z + 9 * s.val, by omega⟩ x : S80x72x128.Idx) := by
  rw [← panel_emb]
  show (panel n).view.emb _ = _
  congr 1
  funext a
  match a with
  | ⟨0, _⟩ => exact Fin.ext (by show z + 9 * s.val = z + 9 * s.val; rfl)
  | ⟨1, _⟩ => exact Fin.ext (by show 0 + 1 * x.val = x.val; omega)

/-- An element off a strip keeps its value. -/
theorem write_strip_miss (n : Fin 80) (z : ℕ) (hz : z < 8) (f : (Memref.whole cc0_scratch3 : Memref sig .tc _ _ _).view.ty.Contents (Elt F))
    (P : FVec F S8x128 .f32) (a : Fin 80) (r : Fin 72) (x : Fin 128) (h : a ≠ n ∨ ∀ s : Fin 8, r.val ≠ z + 9 * s.val) :
    View.write (Elt F) (strip n z hz) f P Finset.univ (ix3 a r x : S80x72x128.Idx) = f (ix3 a r x : S80x72x128.Idx) := by
  refine View.write_of_not_mem _ _ _ ?_
  intro hm
  obtain ⟨y, -, hy⟩ := Finset.mem_map.mp hm
  have hy : (ix3 n ⟨z + 9 * (y 0).val, by have : (y 0).val < 8 := (y 0).isLt; omega⟩ (y 1) : S80x72x128.Idx) = ix3 a r x := by
    exact (strip_emb n z hz (y 0) (y 1)).symm.trans ((congrArg (strip n z hz).emb (eq_ix2 y)).symm.trans hy)
  have h0 : n = a := congrFun hy 0
  have h1 : z + 9 * (y 0).val = r.val := congrArg Fin.val (congrFun hy 1)
  rcases h with h | h
  · exact h h0.symm
  · exact h (y 0) h1.symm

/-- An element of a strip takes the stored tile's. -/
theorem write_strip_hit (n : Fin 80) (z : ℕ) (hz : z < 8) (f : (Memref.whole cc0_scratch3 : Memref sig .tc _ _ _).view.ty.Contents (Elt F))
    (P : FVec F S8x128 .f32) (s : Fin 8) (x : Fin 128) (hr : z + 9 * s.val < 72) :
    View.write (Elt F) (strip n z hz) f P Finset.univ (ix3 n ⟨z + 9 * s.val, hr⟩ x : S80x72x128.Idx) = P (ix2 s x) := by
  have e := strip_emb n z hz s x
  refine (congrArg (View.write (Elt F) (strip n z hz) f P Finset.univ) e.symm).trans ?_
  exact View.write_emb_of_mem _ _ (Finset.mem_univ _)

theorem slabW_miss (z : ℕ) (hz : z < 8) (P : Fin 80 → FVec F S8x128 .f32) (f : (Memref.whole cc0_scratch3 : Memref sig .tc _ _ _).view.ty.Contents (Elt F))
    (a : Fin 80) (r : Fin 72) (x : Fin 128) : ∀ L : List (Fin 80), (a ∉ L ∨ ∀ s : Fin 8, r.val ≠ z + 9 * s.val) →
    slabW z hz P f L (ix3 a r x : S80x72x128.Idx) = f (ix3 a r x : S80x72x128.Idx)
  | [], _ => rfl
  | n :: L, h => by
    refine (write_strip_miss n z hz (slabW z hz P f L) (P n) a r x (h.imp (fun h e => h (e ▸ List.mem_cons_self)) id)).trans ?_
    exact slabW_miss z hz P f a r x L (h.imp (fun h e => h (List.mem_cons_of_mem _ e)) id)

theorem slabW_hit (z : ℕ) (hz : z < 8) (P : Fin 80 → FVec F S8x128 .f32) (f : (Memref.whole cc0_scratch3 : Memref sig .tc _ _ _).view.ty.Contents (Elt F))
    (a : Fin 80) (s : Fin 8) (x : Fin 128) (hr : z + 9 * s.val < 72) : ∀ L : List (Fin 80), a ∈ L →
    slabW z hz P f L (ix3 a ⟨z + 9 * s.val, hr⟩ x : S80x72x128.Idx) = P a (ix2 s x)
  | [], h => absurd h List.not_mem_nil
  | n :: L, h => by
    by_cases e : a = n
    · subst e; exact write_strip_hit _ z hz _ _ s x hr
    · refine (write_strip_miss n z hz (slabW z hz P f L) (P n) a _ x (Or.inl e)).trans ?_
      exact slabW_hit z hz P f a s x hr L ((List.mem_cons.mp h).resolve_left e)

/-- Pieces `[z, n, 0, 0]` for the `n` of a list, read inside one of them, -/
theorem read_planes_hit {κ : Kind} {sp : Space} {e : EltTy} {a b : ℕ} (v : View sig κ sp ⟨4, ![8, 20, a, b]⟩ e) (f : v.ty.Contents (Elt F)) (z : ℕ) (hz : z < 8)
    (inb : ∀ (n : Fin 20) (d), (![z, n.val, 0, 0] : Fin 4 → ℕ) d + (![1, 1, a, b] : Fin 4 → ℕ) d ≤ (⟨4, ![8, 20, a, b]⟩ : Shape).size d)
    (P : Fin 20 → (⟨4, ![1, 1, a, b]⟩ : Shape).Idx → Elt F e) (n : Fin 20) (r : Fin a) (o : Fin b) : ∀ L : List (Fin 20), n ∈ L →
    v.read (Elt F) (v.writes (Elt F) f (L.map fun n => ⟨Rect.unit (s := ⟨4, ![8, 20, a, b]⟩) ![z, n.val, 0, 0] ![1, 1, a, b] (inb n), P n⟩)) (ix4 ⟨z, hz⟩ n r o)
      = P n (ix4 0 0 r o)
  | [], h => absurd h List.not_mem_nil
  | m :: L, h => by
    rw [List.map_cons]
    by_cases e : n = m
    · subst e
      refine View.read_writes_cons_hit_of_coords v f (Rect.unit (s := ⟨4, ![8, 20, a, b]⟩) ![z, n.val, 0, 0] ![1, 1, a, b] (inb n)) (P n) _ (ix4 (0 : Fin 1) (0 : Fin 1) r o) _ ?_
      intro d
      match d with
      | ⟨0, _⟩ => show z = z + 1 * 0; omega
      | ⟨1, _⟩ => show n.val = n.val + 1 * 0; omega
      | ⟨2, _⟩ => show r.val = 0 + 1 * r.val; omega
      | ⟨3, _⟩ => show o.val = 0 + 1 * o.val; omega
    · refine (View.read_writes_cons_miss_of_axis v f _ _ _ (1 : Fin 4) m.val 1 rfl rfl rfl ?_).trans (read_planes_hit v f z hz inb P n r o L ((List.mem_cons.mp h).resolve_left e))
      have : n.val ≠ m.val := fun h => e (Fin.ext h)
      show n.val < m.val ∨ m.val + 1 ≤ n.val
      omega

/-- and read off their group. -/
theorem read_planes_miss {κ : Kind} {sp : Space} {e : EltTy} {a b : ℕ} (v : View sig κ sp ⟨4, ![8, 20, a, b]⟩ e) (f : v.ty.Contents (Elt F)) (z : ℕ)
    (inb : ∀ (n : Fin 20) (d), (![z, n.val, 0, 0] : Fin 4 → ℕ) d + (![1, 1, a, b] : Fin 4 → ℕ) d ≤ (⟨4, ![8, 20, a, b]⟩ : Shape).size d)
    (P : Fin 20 → (⟨4, ![1, 1, a, b]⟩ : Shape).Idx → Elt F e) (y : Fin 8) (hy : y.val ≠ z) (n : Fin 20) (r : Fin a) (o : Fin b) : ∀ L : List (Fin 20),
    v.read (Elt F) (v.writes (Elt F) f (L.map fun n => ⟨Rect.unit (s := ⟨4, ![8, 20, a, b]⟩) ![z, n.val, 0, 0] ![1, 1, a, b] (inb n), P n⟩)) (ix4 y n r o)
      = v.read (Elt F) f (ix4 y n r o)
  | [] => rfl
  | m :: L => by
    rw [List.map_cons]
    refine (View.read_writes_cons_miss_of_axis v f _ _ _ (0 : Fin 4) z 1 rfl rfl rfl ?_).trans (read_planes_miss v f z inb P y hy n r o L)
    show y.val < z ∨ z + 1 ≤ y.val
    omega

/-- The columns of group `g` of a weight block. -/
def wcol (V4 : S512x1024.Idx → F .bf16) (g : Fin 8) : Vec F S512x128 .bf16 := fun x =>
  V4 (ix2 (x 0) ⟨128 * g.val + (x 1).val, by have := g.isLt; have : (x 1).val < 128 := (x 1).isLt; omega⟩)

/-- The tile of partial sums a trip stores at panel `n = 4 * ratio + quarter`. -/
def tileP (W : Vec F S512x128 .bf16) (X8 : (Memref.whole cc0_scratch0 : Memref sig .tc _ _ _).view.ty.Contents (Elt F)) (z : ℕ) (hz : z < 8) (n : Fin 80) : FVec F S8x128 .f32 :=
  laneP (partP (prodP W (gramP X8 z hz 0) (gramP X8 z hz ⟨n.val / 4, by omega⟩) ⟨n.val / 4, by omega⟩)) ⟨n.val % 4, by omega⟩

/-- The eighty panels in the order a trip stores them, newest first. -/
def panels : List (Fin 80) :=
  [79, 78, 77, 76, 75, 74, 73, 72, 71, 70, 69, 68, 67, 66, 65, 64, 63, 62, 61, 60,
   59, 58, 57, 56, 55, 54, 53, 52, 51, 50, 49, 48, 47, 46, 45, 44, 43, 42, 41, 40,
   39, 38, 37, 36, 35, 34, 33, 32, 31, 30, 29, 28, 27, 26, 25, 24, 23, 22, 21, 20,
   19, 18, 17, 16, 15, 14, 13, 12, 11, 10, 9, 8, 7, 6, 5, 4, 3, 2, 1, 0]

theorem mem_panels (n : Fin 80) : n ∈ panels := by
  revert n; decide

/-- What the first `g` trips of the main loop leave, `C`, `A` and `T` being what each stores: the packed codes, the largest
    magnitudes and the slab of partial sums. -/
def DoneG (C : Fin 8 → Fin 20 → Vec F S1x1x64x512 .i8) (A : Fin 8 → Vec F S1x512 .f32) (T : Fin 8 → Fin 80 → FVec F S8x128 .f32) (g : ℕ)
    (V6 : S8x20x64x512.Idx → BitVec 8) (V10 : S8x512.Idx → F .f32) (V11 : S80x72x128.Idx → F .f32) : Prop :=
  ∀ z : Fin 8, z.val < g →
    (∀ n r o, V6 (ix4 z n r o) = C z n (ix4 0 0 r o))
    ∧ (∀ o, V10 (ix2 z o) = A z (ix2 0 o))
    ∧ (∀ (n : Fin 80) (s : Fin 8) (x : Fin 128), V11 (ix3 n ⟨z.val + 9 * s.val, by omega⟩ x) = T z n (ix2 s x))

theorem inb_amax (z : ℕ) (hz : z < 8) : ∀ a, (![z, 0] : Fin 2 → ℕ) a + S1x512.size a ≤ S8x512.size a := by
  intro a
  match a with
  | ⟨0, _⟩ => show z + 1 ≤ 8; omega
  | ⟨1, _⟩ => show 0 + 512 ≤ 512; omega

/-- A claim about the trips made so far, nothing being claimed before the first. -/
def Since (P : ℕ → Prop) : ℕ → Prop
  | 0 => True
  | k + 1 => P (k + 1)

theorem since_intro {P : ℕ → Prop} {k : ℕ} (h : P k) : Since P k = True := by
  cases k with
  | zero => rfl
  | succ k => exact eq_true h

theorem since_elim {P : ℕ → Prop} {k : ℕ} (h0 : P 0) (h : Since P k = True) : P k := by
  cases k with
  | zero => exact h0
  | succ k => exact of_eq_true h

/-- A whole buffer reads as its contents. -/
theorem read_whole0 (g : (Memref.whole cc0_scratch0 : Memref sig .tc _ _ _).view.ty.Contents (Elt F)) (x : S8x20x128x384.Idx) :
    (Memref.whole cc0_scratch0).view.read (Elt F) g x = g x := rfl

theorem read_whole2 (g : (Memref.whole cc0_scratch2 : Memref sig .tc _ _ _).view.ty.Contents (Elt F)) (x : S8x512.Idx) :
    (Memref.whole cc0_scratch2).view.read (Elt F) g x = g x := rfl

theorem doneG_step (arg6 : Memref sig .tc .vmem S8x20x64x512 .i8)
    (C : Fin 8 → Fin 20 → Vec F S1x1x64x512 .i8) (A : Fin 8 → Vec F S1x512 .f32) (T : Fin 8 → Fin 80 → FVec F S8x128 .f32) (k : ℕ)
    (f6 : arg6.view.ty.Contents (Elt F)) (f10 : (Memref.whole cc0_scratch2 : Memref sig .tc _ _ _).view.ty.Contents (Elt F))
    (f11 : (Memref.whole cc0_scratch3 : Memref sig .tc _ _ _).view.ty.Contents (Elt F))
    (z : ℕ) (hz : z < 8) (hzk : z = k)
    (h : DoneG C A T k (arg6.view.read (Elt F) f6) f10 f11) :
    DoneG C A T (k + 1) (arg6.view.read (Elt F) (arg6.view.writes (Elt F) f6
        (List.map (fun n : Fin 20 => ⟨Rect.unit (s := S8x20x64x512) ![z, n.val, 0, 0] S1x1x64x512.size (inb_code z hz n), C ⟨z, hz⟩ n⟩) ratiosL)))
      ((Memref.whole cc0_scratch2).view.writes (Elt F) f10 [⟨Rect.unit (s := S8x512) ![z, 0] S1x512.size (inb_amax z hz), A ⟨z, hz⟩⟩])
      (slabW z hz (T ⟨z, hz⟩) f11 panels) := by
  intro y hy
  by_cases e : y.val = z
  · obtain ⟨y, hyl⟩ := y
    have e : y = z := e
    subst e
    refine ⟨fun n r o => ?_, fun o => ?_, fun n s x => ?_⟩
    · exact read_planes_hit (a := 64) (b := 512) arg6.view f6 y hz (inb_code y hz) (C ⟨y, hz⟩) n r o ratiosL (mem_ratiosL n)
    · refine (read_whole2 _ (ix2 ⟨y, hyl⟩ o)).symm.trans ?_
      refine View.read_writes_cons_hit_of_coords (Memref.whole cc0_scratch2).view f10 (Rect.unit (s := S8x512) ![y, 0] S1x512.size (inb_amax y hz)) (A ⟨y, hz⟩) [] (ix2 (0 : Fin 1) o) _ ?_
      intro d
      match d with
      | ⟨0, _⟩ => show y = y + 1 * 0; omega
      | ⟨1, _⟩ => show o.val = 0 + 1 * o.val; omega
    · exact slabW_hit y hz _ f11 n s x _ panels (mem_panels n)
  · obtain ⟨h1, h2, h3⟩ := h y (by omega)
    refine ⟨fun n r o => ?_, fun o => ?_, fun n s x => ?_⟩
    · exact (read_planes_miss (a := 64) (b := 512) arg6.view f6 z (inb_code z hz) (C ⟨z, hz⟩) y e n r o ratiosL).trans (h1 n r o)
    · refine (read_whole2 _ (ix2 y o)).symm.trans ?_
      refine (View.read_writes_cons_miss_of_axis (Memref.whole cc0_scratch2).view f10 ⟨Rect.unit (s := S8x512) ![z, 0] S1x512.size (inb_amax z hz), A ⟨z, hz⟩⟩ [] (ix2 y o) (0 : Fin 2) z 1 rfl rfl rfl ?_).trans ((read_whole2 f10 (ix2 y o)).trans (h2 o))
      show y.val < z ∨ z + 1 ≤ y.val
      omega
    · refine (slabW_miss z hz _ f11 n _ x panels (Or.inr fun s' h => e ?_)).trans (h3 n s x)
      have h : y.val + 9 * s.val = z + 9 * s'.val := h
      have := y.isLt
      omega

/-- The same with what the kernel's trips store. -/
def Done3 (V4 : S512x1024.Idx → F .bf16) (X8 : (Memref.whole cc0_scratch0 : Memref sig .tc _ _ _).view.ty.Contents (Elt F)) (g : ℕ)
    (V6 : S8x20x64x512.Idx → BitVec 8) (V10 : S8x512.Idx → F .f32) (V11 : S80x72x128.Idx → F .f32) : Prop :=
  DoneG (fun z => codeP (wcol V4 z)) (fun z => k0_pay77 (wcol V4 z)) (fun z => tileP (wcol V4 z) X8 z.val z.isLt) g V6 V10 V11

theorem done3_zero (V4 : S512x1024.Idx → F .bf16) (X8 : (Memref.whole cc0_scratch0 : Memref sig .tc _ _ _).view.ty.Contents (Elt F))
    (V6 : S8x20x64x512.Idx → BitVec 8) (V10 : S8x512.Idx → F .f32) (V11 : S80x72x128.Idx → F .f32) : Done3 V4 X8 0 V6 V10 V11 :=
  fun _ h => absurd h (Nat.not_lt_zero _)

theorem done3_step (arg6 : Memref sig .tc .vmem S8x20x64x512 .i8) (V4 : S512x1024.Idx → F .bf16)
    (X8 : (Memref.whole cc0_scratch0 : Memref sig .tc _ _ _).view.ty.Contents (Elt F)) (k : ℕ)
    (f6 : arg6.view.ty.Contents (Elt F)) (f10 : (Memref.whole cc0_scratch2 : Memref sig .tc _ _ _).view.ty.Contents (Elt F))
    (f11 : (Memref.whole cc0_scratch3 : Memref sig .tc _ _ _).view.ty.Contents (Elt F))
    (z : ℕ) (hz : z < 8) (hzk : z = k) (W : Vec F S512x128 .bf16) (hW : ∀ h, W = wcol V4 ⟨z, h⟩)
    (h : Done3 V4 X8 k (arg6.view.read (Elt F) f6) f10 f11) :
    Done3 V4 X8 (k + 1) (arg6.view.read (Elt F) (arg6.view.writes (Elt F) f6 (codeL W z hz)))
      ((Memref.whole cc0_scratch2).view.writes (Elt F) f10 [⟨Rect.unit (s := S8x512) ![z, 0] S1x512.size (inb_amax z hz), k0_pay77 W⟩])
      (slabW z hz (tileP W X8 z hz) f11 panels) := by
  have hW := hW hz
  subst hW
  exact doneG_step arg6 (fun z => codeP (wcol V4 z)) (fun z => k0_pay77 (wcol V4 z)) (fun z => tileP (wcol V4 z) X8 z.val z.isLt) k f6 f10 f11 z hz hzk h

theorem wcol_read (arg4 : Memref sig .tc .vmem S512x1024 .bf16) (X4 : arg4.view.ty.Contents (Elt F)) (z : ℕ) (h : z < 8) (off : Fin 2 → ℕ) (inb : ∀ a, off a + S512x128.size a ≤ S512x1024.size a)
    (ho : off = ![0, 128 * z]) :
    arg4.view.readAt (Elt F) (Rect.unit (s := S512x1024) off S512x128.size inb).toLoadRect X4 = wcol (arg4.view.read (Elt F) X4) ⟨z, h⟩ := by
  subst ho
  funext x
  show arg4.view.read (Elt F) X4 _ = arg4.view.read (Elt F) X4 _
  congr 1
  funext a
  match a with
  | ⟨0, _⟩ => exact Fin.ext (by show 0 + 1 * (x 0).val = (x 0).val; omega)
  | ⟨1, _⟩ => exact Fin.ext (by show 128 * z + 1 * (x 1).val = 128 * z + (x 1).val; omega)

theorem off43_eq (i : grid0.Coords) (k : Fin (k0_t3_loop i).trips) (hk : k.val < 8) : k0_off43 i k = ![0, 128 * gw k.val] := by
  show ![0, gw128 k.val] = _
  rw [gw128_eq hk, gw_eq hk]

set_option maxHeartbeats 4000000 in
set_option warn.classDefReducibility false in
/-- The main loop: every trip leaves its group's codes, magnitudes and partial sums. -/
@[sl_loop] def loopInv_k0_t3 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole)
    (X4 : BufTy.Contents (Elt F) arg4.view.ty) (X8 : Buf (Elt F) ((Memref.whole cc0_scratch0).view.loc (c : Thread nD τ))) :
    LoopInvTy_k0_t3 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) where
  inv := fun k _ => iprop((arg4.view.loc (c : Thread nD τ) ↦[arg4.view.set]{fullShare} X4) ∗ ((Memref.whole cc0_scratch0).view.loc (c : Thread nD τ) ↦{fullShare} X8)
    ∗ (∃ f9, ((Memref.whole cc0_scratch1).view.loc (c : Thread nD τ) ↦{fullShare} f9))
    ∗ ∃ f6 f10 f11, (arg6.view.loc (c : Thread nD τ) ↦[arg6.view.set]{fullShare} f6)
      ∗ ((Memref.whole cc0_scratch2).view.loc (c : Thread nD τ) ↦{fullShare} f10) ∗ ((Memref.whole cc0_scratch3).view.loc (c : Thread nD τ) ↦{fullShare} f11)
      ∗ ⌜Since (fun k => Done3 (arg4.view.read (Elt F) X4) X8 k (arg6.view.read (Elt F) f6) f10 f11) k = True⌝)
  step := fun k acc => by
    unfold k0_t3_body
    iintro ⟨H4, H8, ⟨%f9, H9⟩, %f6, %f10, %f11, H6, H10, H11, %hd⟩
    sl_exec
    sl_step
    have hk8 : k.val < 8 := Nat.lt_of_lt_of_le k.isLt (k0_t3_abs i).2.1
    have hz : gw k.val < 8 := by rw [gw_eq hk8]; exact hk8
    have key := done3_step arg6 (arg4.view.read (Elt F) X4) X8 k.val f6 f10 f11 (gw k.val) hz (gw_eq hk8)
      (arg4.view.readAt (Elt F) (Rect.unit (s := S512x1024) (k0_off43 i k) S512x128.size (k0_off43_inb i k)).toLoadRect X4) (fun h => wcol_read arg4 X4 _ h _ _ (off43_eq i k hk8)) (since_elim (done3_zero _ _ _ _ _) hd)
    isplitl [H4]; · iexact H4
    isplitl [H8]; · iexact H8
    isplitl [H9]; · iexists _; iexact H9
    iexists _; iexists _; iexists _
    isplitl [H6]; · iexact H6
    isplitl [H10]; · iexact H10
    isplitl [H11]; · iexact H11
    ipureintro
    exact eq_true key

set_option maxHeartbeats 4000000 in
set_option warn.classDefReducibility false in
/-- The remainder of the main loop makes no trip. -/
@[sl_loop] def loopInv_k0_t4 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (v20 : BitVec 32)
    (X4 : BufTy.Contents (Elt F) arg4.view.ty) (X8 : Buf (Elt F) ((Memref.whole cc0_scratch0).view.loc (c : Thread nD τ))) (f6 : arg6.view.ty.Contents (Elt F)) (f9 : Buf (Elt F) ((Memref.whole cc0_scratch1).view.loc (c : Thread nD τ)))
    (f10 : Buf (Elt F) ((Memref.whole cc0_scratch2).view.loc (c : Thread nD τ))) (f11 : Buf (Elt F) ((Memref.whole cc0_scratch3).view.loc (c : Thread nD τ))) :
    LoopInvTy_k0_t4 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) v20 where
  inv := fun k _ => iprop((arg4.view.loc (c : Thread nD τ) ↦[arg4.view.set]{fullShare} X4) ∗ ((Memref.whole cc0_scratch0).view.loc (c : Thread nD τ) ↦{fullShare} X8)
    ∗ ((Memref.whole cc0_scratch1).view.loc (c : Thread nD τ) ↦{fullShare} f9) ∗ (arg6.view.loc (c : Thread nD τ) ↦[arg6.view.set]{fullShare} f6)
    ∗ ((Memref.whole cc0_scratch2).view.loc (c : Thread nD τ) ↦{fullShare} f10) ∗ ((Memref.whole cc0_scratch3).view.loc (c : Thread nD τ) ↦{fullShare} f11))
  step := fun k acc => absurd (Nat.lt_of_lt_of_le k.isLt (k0_t4_abs i).2.1) (Nat.not_lt_zero _)

/-! # The prologue loop -/

/-- A Gram block times one ratio, split into three lower-precision terms side by side. -/
def limbP (cst : F .f32) (v3396 : FVec F S128x128 .f32) : FVec F S1x1x128x384 .bf16 :=
  have cst_3561 : F .f32 := cst
  have v3437 : FVec F S8x128 .f32 := broadcast S8x128 cst_3561
  have cst_3562 : F .f32 := Scalar.ofBits .f32 0x42200000#32
  have v3438 : FVec F S8x128 .f32 := broadcast S8x128 cst_3562
  have v3439 : FVec F S8x128 .f32 := divf v3437 v3438
  have cst_3563 : F .f32 := Scalar.ofBits .f32 0x3F800000#32
  have v3440 : FVec F S8x128 .f32 := broadcast S8x128 cst_3563
  have v3441 : FVec F S8x128 .f32 := subf v3440 v3439
  have v3442 : FVec F S1x128 .f32 := extractStridedSlice S1x128 ![0, 0] v3441 slices_S8x128_o0_0_S1x128
  have v3443 : FVec F S128x128 .f32 := broadcastTo S128x128 v3442 broadcasts_S1x128_S128x128
  have v3444 : FVec F S128x128 .f32 := mulf v3396 v3443
  have v3445 : FVec F S128x128 .bf16 := truncf .bf16 v3444 bitsLt_bf16_f32
  have v3446 : FVec F S128x128 .f32 := extf .f32 v3445 bitsLt_bf16_f32
  have v3447 : FVec F S128x128 .f32 := subf v3444 v3446
  have v3448 : FVec F S128x128 .bf16 := truncf .bf16 v3447 bitsLt_bf16_f32
  have v3449 : FVec F S128x128 .f32 := extf .f32 v3448 bitsLt_bf16_f32
  have v3450 : FVec F S128x128 .f32 := subf v3447 v3449
  have v3451 : FVec F S128x128 .bf16 := truncf .bf16 v3450 bitsLt_bf16_f32
  have v3452 : FVec F S128x384 .bf16 := concatenate S128x384 1 [⟨S128x128, v3445⟩, ⟨S128x128, v3448⟩, ⟨S128x128, v3451⟩] concatenates_S128x128_S128x128_S128x128_S128x384_d1
  have v3456 : FVec F S1x1x128x384 .bf16 := shapeCast S1x1x128x384 v3452 shapeCasts_S128x384_S1x1x128x384
  v3456
/-- The float constants `0, 1, …, 19` the kernel divides by forty. -/
def ratioBits : Fin 20 → BitVec 32 :=
  ![0x00000000#32, 0x3F800000#32, 0x40000000#32, 0x40400000#32, 0x40800000#32, 0x40A00000#32, 0x40C00000#32, 0x40E00000#32, 0x41000000#32, 0x41100000#32,
    0x41200000#32, 0x41300000#32, 0x41400000#32, 0x41500000#32, 0x41600000#32, 0x41700000#32, 0x41800000#32, 0x41880000#32, 0x41900000#32, 0x41980000#32]

/-- The columns of group `g` of a block of activations. -/
def xcol (V2 : S512x1024.Idx → F .fp8e4m3) (g : Fin 8) : Vec F S512x128 .fp8e4m3 := fun x =>
  V2 (ix2 (x 0) ⟨128 * g.val + (x 1).val, by have := g.isLt; have : (x 1).val < 128 := (x 1).isLt; omega⟩)

/-- What the first `g` trips of the prologue loop leave in the limb table. -/
def Done1 (V2 : S512x1024.Idx → F .fp8e4m3) (V3 : Vec F S1x512 .f32) (g : ℕ) (V8 : S8x20x128x384.Idx → F .bf16) : Prop :=
  ∀ z : Fin 8, z.val < g → ∀ n r o, V8 (ix4 z n r o) = limbP (Scalar.ofBits .f32 (ratioBits n)) (k0_pay2 (xcol V2 z) V3) (ix4 0 0 r o)

theorem done1_zero (V2 : S512x1024.Idx → F .fp8e4m3) (V3 : Vec F S1x512 .f32) (V8 : S8x20x128x384.Idx → F .bf16) : Done1 V2 V3 0 V8 :=
  fun _ h => absurd h (Nat.not_lt_zero _)

theorem planes_step (L : Fin 8 → Fin 20 → Vec F S1x1x128x384 .bf16) (k : ℕ)
    (f8 : (Memref.whole cc0_scratch0 : Memref sig .tc _ _ _).view.ty.Contents (Elt F))
    (z : ℕ) (hz : z < 8) (hzk : z = k)
    (h : ∀ y : Fin 8, y.val < k → ∀ n r o, f8 (ix4 y n r o : S8x20x128x384.Idx) = L y n (ix4 0 0 r o)) :
    ∀ y : Fin 8, y.val < k + 1 → ∀ n r o, (Memref.whole cc0_scratch0).view.writes (Elt F) f8
      (ratiosL.map fun n => ⟨Rect.unit (s := S8x20x128x384) ![z, n.val, 0, 0] S1x1x128x384.size (inb_gram z hz n), L ⟨z, hz⟩ n⟩) (ix4 y n r o : S8x20x128x384.Idx)
      = L y n (ix4 0 0 r o) := by
  intro y hy n r o
  by_cases e : y.val = z
  · obtain ⟨y, hyl⟩ := y
    have e : y = z := e
    subst e
    refine (read_whole0 _ (ix4 ⟨y, hyl⟩ n r o)).symm.trans ?_
    exact read_planes_hit (a := 128) (b := 384) (Memref.whole cc0_scratch0).view f8 y hz (inb_gram y hz) (L ⟨y, hz⟩) n r o ratiosL (mem_ratiosL n)
  · refine (read_whole0 _ (ix4 y n r o)).symm.trans ?_
    exact (read_planes_miss (a := 128) (b := 384) (Memref.whole cc0_scratch0).view f8 z (inb_gram z hz) (L ⟨z, hz⟩) y e n r o ratiosL).trans ((read_whole0 f8 (ix4 y n r o)).trans (h y (by omega) n r o))

theorem done1_step (V2 : S512x1024.Idx → F .fp8e4m3) (V3 : Vec F S1x512 .f32) (k : ℕ)
    (f8 : (Memref.whole cc0_scratch0 : Memref sig .tc _ _ _).view.ty.Contents (Elt F))
    (z : ℕ) (hz : z < 8) (hzk : z = k) (X : Vec F S512x128 .fp8e4m3) (hX : ∀ h, X = xcol V2 ⟨z, h⟩)
    (h : Done1 V2 V3 k f8) :
    Done1 V2 V3 (k + 1) ((Memref.whole cc0_scratch0).view.writes (Elt F) f8
      (ratiosL.map fun n => ⟨Rect.unit (s := S8x20x128x384) ![z, n.val, 0, 0] S1x1x128x384.size (inb_gram z hz n),
        limbP (Scalar.ofBits .f32 (ratioBits n)) (k0_pay2 X V3)⟩)) := by
  have hX := hX hz
  subst hX
  exact planes_step (fun z n => limbP (Scalar.ofBits .f32 (ratioBits n)) (k0_pay2 (xcol V2 z) V3)) k f8 z hz hzk h

theorem xcol_read (arg2 : Memref sig .tc .vmem S512x1024 .fp8e4m3) (X2 : arg2.view.ty.Contents (Elt F)) (z : ℕ) (h : z < 8) (off : Fin 2 → ℕ) (inb : ∀ a, off a + S512x128.size a ≤ S512x1024.size a)
    (ho : off = ![0, 128 * z]) :
    arg2.view.readAt (Elt F) (Rect.unit (s := S512x1024) off S512x128.size inb).toLoadRect X2 = xcol (arg2.view.read (Elt F) X2) ⟨z, h⟩ := by
  subst ho
  funext x
  show arg2.view.read (Elt F) X2 _ = arg2.view.read (Elt F) X2 _
  congr 1
  funext a
  match a with
  | ⟨0, _⟩ => exact Fin.ext (by show 0 + 1 * (x 0).val = (x 0).val; omega)
  | ⟨1, _⟩ => exact Fin.ext (by show 128 * z + 1 * (x 1).val = 128 * z + (x 1).val; omega)

theorem off1_eq (i : grid0.Coords) (k : Fin (k0_t1_loop i).trips) (hk : k.val < 8) : k0_off1 i k = ![0, 128 * gw k.val] := by
  show ![0, gw128 k.val] = _
  rw [gw128_eq hk, gw_eq hk]

/-- The activations' scales as the kernel reads them. -/
abbrev scales (arg3 : Memref sig .tc .vmem S1x512 .f32) (X3 : arg3.view.ty.Contents (Elt F)) : Vec F S1x512 .f32 :=
  arg3.view.readAt (Elt F) (Rect.unit (s := S1x512) ![0, 0] S1x512.size inb_S1x512_S1x512_0_0).toLoadRect X3

set_option maxHeartbeats 4000000 in
set_option warn.classDefReducibility false in
/-- The prologue loop: every trip fills its group's planes of the limb table. -/
@[sl_loop] def loopInv_k0_t1 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (k0_h1 : k0_cond1 i = 1#1)
    (X2 : BufTy.Contents (Elt F) arg2.view.ty) (X3 : BufTy.Contents (Elt F) arg3.view.ty) :
    LoopInvTy_k0_t1 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) k0_h1 where
  inv := fun k _ => iprop((arg2.view.loc (c : Thread nD τ) ↦[arg2.view.set]{fullShare} X2) ∗ (arg3.view.loc (c : Thread nD τ) ↦[arg3.view.set]{fullShare} X3)
    ∗ ∃ f8, ((Memref.whole cc0_scratch0).view.loc (c : Thread nD τ) ↦{fullShare} f8)
      ∗ ⌜Since (fun k => Done1 (arg2.view.read (Elt F) X2) (scales arg3 X3) k f8) k = True⌝)
  step := fun k acc => by
    unfold k0_t1_body
    iintro ⟨H2, H3, %f8, H8, %hd⟩
    sl_exec
    sl_step
    have hk8 : k.val < 8 := Nat.lt_of_lt_of_le k.isLt (k0_t1_abs i).2.1
    have hz : gw k.val < 8 := by rw [gw_eq hk8]; exact hk8
    have key := done1_step (arg2.view.read (Elt F) X2) (scales arg3 X3) k.val f8 (gw k.val) hz (gw_eq hk8)
      (arg2.view.readAt (Elt F) (Rect.unit (s := S512x1024) (k0_off1 i k) S512x128.size (k0_off1_inb i k k0_h1)).toLoadRect X2)
      (fun h => xcol_read arg2 X2 _ h _ _ (off1_eq i k hk8)) (since_elim (done1_zero _ _ _) hd)
    isplitl [H2]; · iexact H2
    isplitl [H3]; · iexact H3
    iexists _
    isplitl [H8]; · iexact H8
    ipureintro
    exact eq_true key

set_option maxHeartbeats 4000000 in
set_option warn.classDefReducibility false in
/-- Its remainder makes no trip. -/
@[sl_loop] def loopInv_k0_t2 (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole) (k0_h1 : k0_cond1 i = 1#1) (v3382 : BitVec 32)
    (X2 : BufTy.Contents (Elt F) arg2.view.ty) (X3 : BufTy.Contents (Elt F) arg3.view.ty) (f8 : Buf (Elt F) ((Memref.whole cc0_scratch0).view.loc (c : Thread nD τ))) :
    LoopInvTy_k0_t2 (F := F) Unit ℕ (UR sig nD τ) ℕ Variants.none c none Set.univ i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) k0_h1 v3382 where
  inv := fun k _ => iprop((arg2.view.loc (c : Thread nD τ) ↦[arg2.view.set]{fullShare} X2) ∗ (arg3.view.loc (c : Thread nD τ) ↦[arg3.view.set]{fullShare} X3)
    ∗ ((Memref.whole cc0_scratch0).view.loc (c : Thread nD τ) ↦{fullShare} f8))
  step := fun k acc => absurd (Nat.lt_of_lt_of_le k.isLt (k0_t2_abs i).2.1) (Nat.not_lt_zero _)

end Cert.KernelIdeal.Val

end
-- ==== Proof.KernelIdealLeft.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealTrip

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # What one grid point of the kernel leaves -/

/-- The scale of a block of magnitudes at the ratio `1 - cst / 40`. -/
def scaleB (cst : F .f32) (a : FVec F S8x512 .f32) : FVec F S8x512 .f32 :=
  select (cmpf .oeq a (broadcast S8x512 (Scalar.ofBits .f32 0x00000000#32))) (broadcast S8x512 (Scalar.ofBits .f32 0x3F800000#32))
    (divf (mulf (subf (broadcast S8x512 (Scalar.ofBits .f32 0x3F800000#32)) (divf (broadcast S8x512 cst) (broadcast S8x512 (Scalar.ofBits .f32 0x42200000#32)))) a)
      (broadcast S8x512 (Scalar.ofBits .f32 0x40E00000#32)))

/-- The magnitudes of all groups as the kernel reads them back. -/
def amaxV (f10 : (Memref.whole cc0_scratch2 : Memref sig .tc _ _ _).view.ty.Contents (Elt F)) : Vec F S8x512 .f32 :=
  (Memref.whole cc0_scratch2).view.readAt (Elt F) (Rect.unit (s := S8x512) ![0, 0] S8x512.size inb_S8x512_S8x512_0_0).toLoadRect f10

/-- The scales at ratio `n` as stored. -/
def scaleT (f10 : (Memref.whole cc0_scratch2 : Memref sig .tc _ _ _).view.ty.Contents (Elt F)) (n : Fin 20) : FVec F S1x8x512 .f32 :=
  shapeCast S1x8x512 (scaleB (Scalar.ofBits .f32 (ratioBits n)) (amaxV f10)) shapeCasts_S8x512_S1x8x512

theorem inb_rows (s : Fin 8) : ∀ a, (![9 * s.val, 0] : Fin 2 → ℕ) a + S8x128.size a ≤ S72x128.size a := by
  intro a; have := s.isLt
  match a with
  | ⟨0, _⟩ => show 9 * s.val + 8 ≤ 72; omega
  | ⟨1, _⟩ => show 0 + 128 ≤ 128; omega

/-- Rows `9 s, …, 9 s + 7` of panel `n` of the slab: partial sum `s` of every group. -/
def rowsV (f11 : (Memref.whole cc0_scratch3 : Memref sig .tc _ _ _).view.ty.Contents (Elt F)) (n : Fin 80) (s : Fin 8) : Vec F S8x128 .f32 :=
  (panel n).view.readAt (Elt F) (Rect.unit (s := S72x128) ![9 * s.val, 0] S8x128.size (inb_rows s)).toLoadRect f11

/-- The sum of the eight partial sums of panel `n`. -/
def totalV (f11 : (Memref.whole cc0_scratch3 : Memref sig .tc _ _ _).view.ty.Contents (Elt F)) (n : Fin 80) : FVec F S8x128 .f32 :=
  addf (addf (addf (rowsV f11 n 0) (rowsV f11 n 1)) (addf (rowsV f11 n 2) (rowsV f11 n 3)))
    (addf (addf (rowsV f11 n 4) (rowsV f11 n 5)) (addf (rowsV f11 n 6) (rowsV f11 n 7)))

/-- The losses of ratio `n / 4`, columns of quarter `n % 4`, as stored. -/
def lossT (f10 : (Memref.whole cc0_scratch2 : Memref sig .tc _ _ _).view.ty.Contents (Elt F))
    (f11 : (Memref.whole cc0_scratch3 : Memref sig .tc _ _ _).view.ty.Contents (Elt F)) (n : Fin 80) : FVec F S1x8x128 .f32 :=
  shapeCast S1x8x128
    (mulf (mulf (totalV f11 n) (extractStridedSlice S8x128 ![0, 128 * (n.val % 4)] (scaleB (Scalar.ofBits .f32 (ratioBits 0)) (amaxV f10)) (slices_lane ⟨n.val % 4, by omega⟩)))
      (extractStridedSlice S8x128 ![0, 128 * (n.val % 4)] (scaleB (Scalar.ofBits .f32 (ratioBits ⟨n.val / 4, by omega⟩)) (amaxV f10)) (slices_lane ⟨n.val % 4, by omega⟩)))
    shapeCasts_S8x128_S1x8x128

theorem inb_scale (n : Fin 20) : ∀ a, (![n.val, 0, 0] : Fin 3 → ℕ) a + S1x8x512.size a ≤ S20x8x512.size a := by
  intro a; have := n.isLt
  match a with
  | ⟨0, _⟩ => show n.val + 1 ≤ 20; omega
  | ⟨1, _⟩ => show 0 + 8 ≤ 8; omega
  | ⟨2, _⟩ => show 0 + 512 ≤ 512; omega

theorem inb_loss (n : Fin 80) : ∀ a, (![n.val / 4, 0, 128 * (n.val % 4)] : Fin 3 → ℕ) a + S1x8x128.size a ≤ S20x8x512.size a := by
  intro a; have := n.isLt
  match a with
  | ⟨0, _⟩ => show n.val / 4 + 1 ≤ 20; omega
  | ⟨1, _⟩ => show 0 + 8 ≤ 8; omega
  | ⟨2, _⟩ => show 128 * (n.val % 4) + 128 ≤ 512; omega

/-- The pieces stored into the scales' block, newest first. -/
def scaleL (f10 : (Memref.whole cc0_scratch2 : Memref sig .tc _ _ _).view.ty.Contents (Elt F)) : List (View.Piece (Elt F) S20x8x512 .f32) :=
  List.map (fun n : Fin 20 => ⟨Rect.unit (s := S20x8x512) ![n.val, 0, 0] S1x8x512.size (inb_scale n), scaleT f10 n⟩) ratiosL

/-- The pieces stored into the losses' block, newest first. -/
def lossL (f10 : (Memref.whole cc0_scratch2 : Memref sig .tc _ _ _).view.ty.Contents (Elt F))
    (f11 : (Memref.whole cc0_scratch3 : Memref sig .tc _ _ _).view.ty.Contents (Elt F)) : List (View.Piece (Elt F) S20x8x512 .f32) :=
  List.map (fun n : Fin 80 => ⟨Rect.unit (s := S20x8x512) ![n.val / 4, 0, 128 * (n.val % 4)] S1x8x128.size (inb_loss n), lossT f10 f11 n⟩) panels

/-- What a grid point leaves, given the blocks it read and the limb table it found: the table `f8`, the stored blocks and the scratch. -/
def After (i : grid0.Coords) (V2 : S512x1024.Idx → F .fp8e4m3) (V3 : Vec F S1x512 .f32) (V4 : S512x1024.Idx → F .bf16)
    (Y0 f8 : (Memref.whole cc0_scratch0 : Memref sig .tc _ _ _).view.ty.Contents (Elt F))
    (V5 : S20x8x512.Idx → F .f32) (V6 : S8x20x64x512.Idx → BitVec 8) (V7 : S20x8x512.Idx → F .f32) : Prop :=
  (k0_cond1 i = 1#1 → Done1 V2 V3 (k0_t1_loop i).trips f8) ∧ (¬ k0_cond1 i = 1#1 → f8 = Y0)
  ∧ ∃ (f10 : (Memref.whole cc0_scratch2 : Memref sig .tc _ _ _).view.ty.Contents (Elt F))
      (f11 : (Memref.whole cc0_scratch3 : Memref sig .tc _ _ _).view.ty.Contents (Elt F)),
    Done3 V4 f8 (k0_t3_loop i).trips V6 f10 f11
    ∧ (∀ n g o, V7 (ix3 n g o) = scaleT f10 n (ix3 0 g o))
    ∧ (∀ (n : Fin 80) (g : Fin 8) (x : Fin 128), V5 (ix3 ⟨n.val / 4, by omega⟩ g ⟨128 * (n.val % 4) + x.val, by omega⟩) = lossT f10 f11 n (ix3 0 g x))

theorem read_scaleL (v : View sig .tc .vmem S20x8x512 .f32) (f : v.ty.Contents (Elt F)) (P : Fin 20 → FVec F S1x8x512 .f32) (n : Fin 20) (g : Fin 8) (o : Fin 512) :
    ∀ L : List (Fin 20), n ∈ L →
    v.read (Elt F) (v.writes (Elt F) f (List.map (fun n : Fin 20 => ⟨Rect.unit (s := S20x8x512) ![n.val, 0, 0] S1x8x512.size (inb_scale n), P n⟩) L)) (ix3 n g o) = P n (ix3 0 g o)
  | [], h => absurd h List.not_mem_nil
  | m :: L, h => by
    rw [List.map_cons]
    by_cases e : n = m
    · subst e
      refine View.read_writes_cons_hit_of_coords v f (Rect.unit (s := S20x8x512) ![n.val, 0, 0] S1x8x512.size (inb_scale n)) (P n) _ (ix3 (0 : Fin 1) g o) _ ?_
      intro d
      match d with
      | ⟨0, _⟩ => show n.val = n.val + 1 * 0; omega
      | ⟨1, _⟩ => show g.val = 0 + 1 * g.val; omega
      | ⟨2, _⟩ => show o.val = 0 + 1 * o.val; omega
    · refine (View.read_writes_cons_miss_of_axis v f _ _ _ (0 : Fin 3) m.val 1 rfl rfl rfl ?_).trans (read_scaleL v f P n g o L ((List.mem_cons.mp h).resolve_left e))
      have : n.val ≠ m.val := fun h => e (Fin.ext h)
      show n.val < m.val ∨ m.val + 1 ≤ n.val
      omega

theorem read_lossL (v : View sig .tc .vmem S20x8x512 .f32) (f : v.ty.Contents (Elt F)) (P : Fin 80 → FVec F S1x8x128 .f32) (n : Fin 80) (g : Fin 8) (x : Fin 128)
    (h0 : n.val / 4 < 20) (h2 : 128 * (n.val % 4) + x.val < 512) : ∀ L : List (Fin 80), n ∈ L →
    v.read (Elt F) (v.writes (Elt F) f (List.map (fun n : Fin 80 => ⟨Rect.unit (s := S20x8x512) ![n.val / 4, 0, 128 * (n.val % 4)] S1x8x128.size (inb_loss n), P n⟩) L))
      (ix3 ⟨n.val / 4, h0⟩ g ⟨128 * (n.val % 4) + x.val, h2⟩) = P n (ix3 0 g x)
  | [], h => absurd h List.not_mem_nil
  | m :: L, h => by
    rw [List.map_cons]
    by_cases e : n = m
    · subst e
      refine View.read_writes_cons_hit_of_coords v f (Rect.unit (s := S20x8x512) ![n.val / 4, 0, 128 * (n.val % 4)] S1x8x128.size (inb_loss n)) (P n) _ (ix3 (0 : Fin 1) g x) _ ?_
      intro d
      match d with
      | ⟨0, _⟩ => show n.val / 4 = n.val / 4 + 1 * 0; omega
      | ⟨1, _⟩ => show g.val = 0 + 1 * g.val; omega
      | ⟨2, _⟩ => show 128 * (n.val % 4) + x.val = 128 * (n.val % 4) + 1 * x.val; omega
    · have hne : n.val ≠ m.val := fun h => e (Fin.ext h)
      by_cases hq : n.val / 4 = m.val / 4
      · refine (View.read_writes_cons_miss_of_axis v f _ _ _ (2 : Fin 3) (128 * (m.val % 4)) 128 rfl rfl rfl ?_).trans (read_lossL v f P n g x h0 h2 L ((List.mem_cons.mp h).resolve_left e))
        show 128 * (n.val % 4) + x.val < 128 * (m.val % 4) ∨ 128 * (m.val % 4) + 128 ≤ 128 * (n.val % 4) + x.val
        omega
      · refine (View.read_writes_cons_miss_of_axis v f _ _ _ (0 : Fin 3) (m.val / 4) 1 rfl rfl rfl ?_).trans (read_lossL v f P n g x h0 h2 L ((List.mem_cons.mp h).resolve_left e))
        show n.val / 4 < m.val / 4 ∨ m.val / 4 + 1 ≤ n.val / 4
        omega

theorem after_of (i : grid0.Coords) (V2 : S512x1024.Idx → F .fp8e4m3) (V3 : Vec F S1x512 .f32) (V4 : S512x1024.Idx → F .bf16)
    (Y0 f8 : (Memref.whole cc0_scratch0 : Memref sig .tc _ _ _).view.ty.Contents (Elt F))
    (arg5 : Memref sig .tc .vmem S20x8x512 .f32) (arg7 : Memref sig .tc .vmem S20x8x512 .f32) (X5 : arg5.view.ty.Contents (Elt F)) (X7 : arg7.view.ty.Contents (Elt F))
    (V6 : S8x20x64x512.Idx → BitVec 8) (f10 : (Memref.whole cc0_scratch2 : Memref sig .tc _ _ _).view.ty.Contents (Elt F))
    (f11 : (Memref.whole cc0_scratch3 : Memref sig .tc _ _ _).view.ty.Contents (Elt F))
    (h1 : k0_cond1 i = 1#1 → Done1 V2 V3 (k0_t1_loop i).trips f8) (h2 : ¬ k0_cond1 i = 1#1 → f8 = Y0) (h3 : Done3 V4 f8 (k0_t3_loop i).trips V6 f10 f11) :
    After i V2 V3 V4 Y0 f8 (arg5.view.read (Elt F) (arg5.view.writes (Elt F) X5 (lossL f10 f11))) V6 (arg7.view.read (Elt F) (arg7.view.writes (Elt F) X7 (scaleL f10))) :=
  ⟨h1, h2, f10, f11, h3, fun n g o => read_scaleL arg7.view X7 (scaleT f10) n g o ratiosL (mem_ratiosL n),
    fun n g x => read_lossL arg5.view X5 (lossT f10 f11) n g x _ _ panels (mem_panels n)⟩

end Cert.KernelIdeal.Val

end
-- ==== Proof.KernelIdealArr.lean ====
module

public import proofs.«01_k».proof.Proof.KernelIdealLeft

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.ValueIdx

variable {F : FTy → Type} [FloatOps F]

/-! # The three results of the region, element by element, from its three operands -/

/-- The activation codes of quantisation group `G`. -/
def xG (x : S512x11008.Idx → F .fp8e4m3) (G : Fin 86) : Vec F S512x128 .fp8e4m3 := fun y =>
  x (ix2 (y 0) ⟨128 * G.val + (y 1).val, by have := G.isLt; have : (y 1).val < 128 := (y 1).isLt; omega⟩)

/-- The weights of quantisation group `G` in block `b` of the output channels. -/
def wG (w : S4096x11008.Idx → F .bf16) (G : Fin 86) (b : Fin 8) : Vec F S512x128 .bf16 := fun y =>
  w (ix2 ⟨512 * b.val + (y 0).val, by have := b.isLt; have : (y 0).val < 512 := (y 0).isLt; omega⟩
    ⟨128 * G.val + (y 1).val, by have := G.isLt; have : (y 1).val < 128 := (y 1).isLt; omega⟩)

/-- The limb-table plane of group `G` at ratio `n`. -/
def limbG (x : S512x11008.Idx → F .fp8e4m3) (s : Vec F S1x512 .f32) (G : Fin 86) (n : Fin 20) : Vec F S1x1x128x384 .bf16 :=
  limbP (Scalar.ofBits .f32 (ratioBits n)) (k0_pay2 (xG x G) s)

/-- The scale of one magnitude at the ratio `1 - cst / 40`. -/
def scaleE (cst a : F .f32) : F .f32 := scaleB cst (fun _ => a) (ix2 0 0)

theorem scaleB_apply (cst : F .f32) (a : FVec F S8x512 .f32) (j : S8x512.Idx) : scaleB cst a j = scaleE cst (a j) := rfl

/-- The largest magnitude of output channel `o` in a weight block. -/
def amaxE (W : Vec F S512x128 .bf16) (o : Fin 512) : F .f32 := k0_pay77 W (ix2 0 o)

/-- The loss of output channel `o` of a weight block at ratio `n`. -/
def lossE (W : Vec F S512x128 .bf16) (G0 Gn : Vec F S1x1x128x384 .bf16) (n : Fin 20) (o : Fin 512) : F .f32 :=
  let p : Fin 8 → F .f32 := fun s => partP (prodP W G0 Gn n) (ix2 s o)
  FloatOps.mulf (FloatOps.mulf
    (FloatOps.addf (FloatOps.addf (FloatOps.addf (p 0) (p 1)) (FloatOps.addf (p 2) (p 3))) (FloatOps.addf (FloatOps.addf (p 4) (p 5)) (FloatOps.addf (p 6) (p 7))))
    (scaleE (Scalar.ofBits .f32 (ratioBits 0)) (amaxE W o))) (scaleE (Scalar.ofBits .f32 (ratioBits n)) (amaxE W o))

/-- The losses at group `G`, channel `512 b + o`, ratio `n`. -/
def lossG (x : S512x11008.Idx → F .fp8e4m3) (s : Vec F S1x512 .f32) (w : S4096x11008.Idx → F .bf16) (n : Fin 20) (G : Fin 86) (b : Fin 8) (o : Fin 512) : F .f32 :=
  lossE (wG w G b) (limbG x s G 0) (limbG x s G n) n o

/-- The packed codes likewise. -/
def codeG (w : S4096x11008.Idx → F .bf16) (G : Fin 86) (n : Fin 20) (r : Fin 64) (b : Fin 8) (o : Fin 512) : BitVec 8 :=
  codeP (wG w G b) n (ix4 0 0 r o)

/-- The scales likewise. -/
def scaleG (w : S4096x11008.Idx → F .bf16) (n : Fin 20) (G : Fin 86) (b : Fin 8) (o : Fin 512) : F .f32 :=
  scaleE (Scalar.ofBits .f32 (ratioBits n)) (amaxE (wG w G b) o)

/-- The block of output channels a channel lies in, and its place there. -/
def blkOf (o : Fin 4096) : Fin 8 := ⟨o.val / 512, by have := o.isLt; omega⟩
def posOf (o : Fin 4096) : Fin 512 := ⟨o.val % 512, by omega⟩

/-- The loss array. -/
def arrLoss (x : S512x11008.Idx → F .fp8e4m3) (s : Vec F S1x512 .f32) (w : S4096x11008.Idx → F .bf16) : S20x86x4096.Idx → F .f32 := fun j =>
  lossG x s w (j 0) (j 1) (blkOf (j 2)) (posOf (j 2))

/-- The array of packed codes. -/
def arrCode (w : S4096x11008.Idx → F .bf16) : S86x20x64x4096.Idx → BitVec 8 := fun j =>
  codeG w (j 0) (j 1) (j 2) (blkOf (j 3)) (posOf (j 3))

/-- The array of scales. -/
def arrScale (w : S4096x11008.Idx → F .bf16) : S20x86x4096.Idx → F .f32 := fun j =>
  scaleG w (j 0) (j 1) (blkOf (j 2)) (posOf (j 2))

/-- The limb table holds the planes of the groups of block `gb`. -/
def TableOK (x : S512x11008.Idx → F .fp8e4m3) (s : Vec F S1x512 .f32) (gb : ℕ) (V8 : S8x20x128x384.Idx → F .bf16) : Prop :=
  ∀ (g : Fin 8) (h : 8 * gb + g.val < 86) n r o, V8 (ix4 g n r o) = limbG x s ⟨8 * gb + g.val, h⟩ n (ix4 0 0 r o)

theorem gramP_of (x : S512x11008.Idx → F .fp8e4m3) (s : Vec F S1x512 .f32) (gb : ℕ)
    (V8 : (Memref.whole cc0_scratch0 : Memref sig .tc _ _ _).view.ty.Contents (Elt F)) (h8 : TableOK x s gb V8) (g : Fin 8) (h : 8 * gb + g.val < 86) (n : Fin 20) :
    gramP V8 g.val g.isLt n = limbG x s ⟨8 * gb + g.val, h⟩ n := by
  funext j
  refine Eq.trans (?_ : _ = V8 (ix4 g n (j 2) (j 3) : S8x20x128x384.Idx)) ((h8 g h n (j 2) (j 3)).trans (congrArg _ ?_))
  · show V8 ((Rect.unit (s := S8x20x128x384) ![g.val, n.val, 0, 0] S1x1x128x384.size (inb_gram g.val g.isLt n)).emb j) = _
    refine congrArg V8 ?_
    funext a; apply Fin.ext
    have h0 : (j 0).val < 1 := (j 0).isLt
    have h1 : (j 1).val < 1 := (j 1).isLt
    match a with
    | ⟨0, _⟩ => show g.val + 1 * (j 0).val = g.val; omega
    | ⟨1, _⟩ => show n.val + 1 * (j 1).val = n.val; omega
    | ⟨2, _⟩ => show 0 + 1 * (j 2).val = (j 2).val; omega
    | ⟨3, _⟩ => show 0 + 1 * (j 3).val = (j 3).val; omega
  · funext a; apply Fin.ext
    have h0 : (j 0).val < 1 := (j 0).isLt
    have h1 : (j 1).val < 1 := (j 1).isLt
    match a with
    | ⟨0, _⟩ => show 0 = (j 0).val; omega
    | ⟨1, _⟩ => show 0 = (j 1).val; omega
    | ⟨2, _⟩ => rfl
    | ⟨3, _⟩ => rfl

theorem rowsV_apply (f11 : (Memref.whole cc0_scratch3 : Memref sig .tc _ _ _).view.ty.Contents (Elt F)) (n : Fin 80) (s : Fin 8) (g : Fin 8) (x : Fin 128) :
    rowsV f11 n s (ix2 g x) = f11 (ix3 n ⟨g.val + 9 * s.val, by omega⟩ x : S80x72x128.Idx) := by
  have e : (Rect.unit (s := S72x128) ![9 * s.val, 0] S8x128.size (inb_rows s)).emb (ix2 g x) = (ix2 ⟨g.val + 9 * s.val, by omega⟩ x : S72x128.Idx) := by
    funext a; apply Fin.ext
    match a with
    | ⟨0, _⟩ => show 9 * s.val + 1 * g.val = g.val + 9 * s.val; omega
    | ⟨1, _⟩ => show 0 + 1 * x.val = x.val; omega
  show f11 ((panel n).view.emb ((Rect.unit (s := S72x128) ![9 * s.val, 0] S8x128.size (inb_rows s)).emb (ix2 g x))) = _
  rw [e, panel_emb]

theorem amaxV_apply (f10 : (Memref.whole cc0_scratch2 : Memref sig .tc _ _ _).view.ty.Contents (Elt F)) (j : S8x512.Idx) :
    amaxV f10 j = f10 j := by
  show f10 ((Rect.unit (s := S8x512) ![0, 0] S8x512.size inb_S8x512_S8x512_0_0).emb j) = f10 j
  refine congrArg f10 ?_
  funext a; apply Fin.ext
  match a with
  | ⟨0, _⟩ => show 0 + 1 * (j 0).val = (j 0).val; omega
  | ⟨1, _⟩ => show 0 + 1 * (j 1).val = (j 1).val; omega

theorem laneP_apply (q : FVec F S8x512 .f32) (l : Fin 4) (s : Fin 8) (x : Fin 128) :
    laneP q l (ix2 s x) = q (ix2 s ⟨128 * l.val + x.val, by omega⟩) := by
  unfold laneP
  rw [shapeCast_self]
  show q _ = q _
  refine congrArg q ?_
  funext a; apply Fin.ext
  match a with
  | ⟨0, _⟩ => show 0 + s.val = s.val; omega
  | ⟨1, _⟩ => rfl

theorem scaleT_apply (f10 : (Memref.whole cc0_scratch2 : Memref sig .tc _ _ _).view.ty.Contents (Elt F)) (n : Fin 20) (g : Fin 8) (o : Fin 512) :
    scaleT f10 n (ix3 0 g o) = scaleE (Scalar.ofBits .f32 (ratioBits n)) (f10 (ix2 g o : S8x512.Idx)) := by
  unfold scaleT
  rw [shapeCast_ab_1ab_apply, scaleB_apply, amaxV_apply]

theorem lossT_apply (f10 : (Memref.whole cc0_scratch2 : Memref sig .tc _ _ _).view.ty.Contents (Elt F))
    (f11 : (Memref.whole cc0_scratch3 : Memref sig .tc _ _ _).view.ty.Contents (Elt F)) (n : Fin 80) (g : Fin 8) (x : Fin 128) :
    lossT f10 f11 n (ix3 0 g x) = FloatOps.mulf (FloatOps.mulf (totalV f11 n (ix2 g x))
        (scaleE (Scalar.ofBits .f32 (ratioBits 0)) (f10 (ix2 g ⟨128 * (n.val % 4) + x.val, by omega⟩ : S8x512.Idx))))
        (scaleE (Scalar.ofBits .f32 (ratioBits ⟨n.val / 4, by omega⟩)) (f10 (ix2 g ⟨128 * (n.val % 4) + x.val, by omega⟩ : S8x512.Idx))) := by
  unfold lossT
  rw [shapeCast_ab_1ab_apply]
  have e : ∀ c : F .f32, extractStridedSlice S8x128 ![0, 128 * (n.val % 4)] (scaleB c (amaxV f10)) (slices_lane ⟨n.val % 4, by omega⟩) (ix2 g x)
      = scaleE c (f10 (ix2 g ⟨128 * (n.val % 4) + x.val, by omega⟩ : S8x512.Idx)) := by
    intro c
    rw [← amaxV_apply f10 (ix2 g ⟨128 * (n.val % 4) + x.val, by omega⟩), ← scaleB_apply c]
    show scaleB c (amaxV f10) _ = scaleB c (amaxV f10) _
    refine congrArg _ ?_
    funext a; apply Fin.ext
    match a with
    | ⟨0, _⟩ => show 0 + g.val = g.val; omega
    | ⟨1, _⟩ => rfl
  show FloatOps.mulf (FloatOps.mulf (totalV f11 n (ix2 g x)) (extractStridedSlice S8x128 _ _ _ (ix2 g x))) (extractStridedSlice S8x128 _ _ _ (ix2 g x)) = _
  rw [e, e]

/-- What a grid point leaves, read off at the groups that exist. -/
theorem left_arr (x : S512x11008.Idx → F .fp8e4m3) (s : Vec F S1x512 .f32) (w : S4096x11008.Idx → F .bf16) (i : grid0.Coords) (gb : ℕ) (ob : Fin 8)
    (V2 : S512x1024.Idx → F .fp8e4m3) (V3 : Vec F S1x512 .f32) (V4 : S512x1024.Idx → F .bf16)
    (Y0 f8 : (Memref.whole cc0_scratch0 : Memref sig .tc _ _ _).view.ty.Contents (Elt F))
    (V5 : S20x8x512.Idx → F .f32) (V6 : S8x20x64x512.Idx → BitVec 8) (V7 : S20x8x512.Idx → F .f32)
    (hA : After i V2 V3 V4 Y0 f8 V5 V6 V7)
    (ht1 : ∀ g : Fin 8, 8 * gb + g.val < 86 → g.val < (k0_t1_loop i).trips) (ht3 : ∀ g : Fin 8, 8 * gb + g.val < 86 → g.val < (k0_t3_loop i).trips)
    (h2 : ∀ (g : Fin 8) (h : 8 * gb + g.val < 86), xcol V2 g = xG x ⟨8 * gb + g.val, h⟩) (h3 : V3 = s)
    (h4 : ∀ (g : Fin 8) (h : 8 * gb + g.val < 86), wcol V4 g = wG w ⟨8 * gb + g.val, h⟩ ob)
    (h0 : ¬ k0_cond1 i = 1#1 → TableOK x s gb Y0) :
    TableOK x s gb f8
    ∧ (∀ n (g : Fin 8) (h : 8 * gb + g.val < 86) o, V5 (ix3 n g o) = lossG x s w n ⟨8 * gb + g.val, h⟩ ob o)
    ∧ (∀ (g : Fin 8) (h : 8 * gb + g.val < 86) n r o, V6 (ix4 g n r o) = codeG w ⟨8 * gb + g.val, h⟩ n r ob o)
    ∧ (∀ n (g : Fin 8) (h : 8 * gb + g.val < 86) o, V7 (ix3 n g o) = scaleG w n ⟨8 * gb + g.val, h⟩ ob o) := by
  obtain ⟨a1, a2, f10, f11, a3, a7, a5⟩ := hA
  have hT : TableOK x s gb f8 := by
    by_cases hc : k0_cond1 i = 1#1
    · intro g h n r o
      have := a1 hc g (ht1 g h) n r o
      rw [h2 g h, h3] at this
      exact this
    · rw [a2 hc]; exact h0 hc
  have hM : ∀ (g : Fin 8) (h : 8 * gb + g.val < 86) (o : Fin 512), f10 (ix2 g o : S8x512.Idx) = amaxE (wG w ⟨8 * gb + g.val, h⟩ ob) o := by
    intro g h o
    rw [← h4 g h]
    exact (a3 g (ht3 g h)).2.1 o
  refine ⟨hT, ?_, ?_, ?_⟩
  · intro n g h o
    have hn := n.isLt
    have ho := o.isLt
    have := a5 ⟨4 * n.val + o.val / 128, by omega⟩ g ⟨o.val % 128, by omega⟩
    have e1 : (⟨(4 * n.val + o.val / 128) / 4, by omega⟩ : Fin 20) = n := Fin.ext (by show (4 * n.val + o.val / 128) / 4 = n.val; omega)
    have e2 : (⟨128 * ((4 * n.val + o.val / 128) % 4) + o.val % 128, by omega⟩ : Fin 512) = o :=
      Fin.ext (by show 128 * ((4 * n.val + o.val / 128) % 4) + o.val % 128 = o.val; omega)
    rw [lossT_apply] at this
    simp only [e1, e2] at this
    rw [this, hM g h o]
    have hr : ∀ q : Fin 8, rowsV f11 ⟨4 * n.val + o.val / 128, by omega⟩ q (ix2 g ⟨o.val % 128, by omega⟩)
        = partP (prodP (wG w ⟨8 * gb + g.val, h⟩ ob) (limbG x s ⟨8 * gb + g.val, h⟩ 0) (limbG x s ⟨8 * gb + g.val, h⟩ n) n) (ix2 q o) := by
      intro q
      rw [rowsV_apply, (a3 g (ht3 g h)).2.2]
      show tileP (wcol V4 g) f8 g.val g.isLt _ _ = _
      unfold tileP
      rw [laneP_apply]
      simp only [e1, e2]
      rw [gramP_of x s gb f8 hT g h, gramP_of x s gb f8 hT g h, h4 g h]
    unfold lossG lossE totalV
    show FloatOps.mulf (FloatOps.mulf (FloatOps.addf (FloatOps.addf (FloatOps.addf (rowsV f11 _ 0 _) (rowsV f11 _ 1 _)) (FloatOps.addf (rowsV f11 _ 2 _) (rowsV f11 _ 3 _)))
      (FloatOps.addf (FloatOps.addf (rowsV f11 _ 4 _) (rowsV f11 _ 5 _)) (FloatOps.addf (rowsV f11 _ 6 _) (rowsV f11 _ 7 _)))) _) _ = _
    rw [hr, hr, hr, hr, hr, hr, hr, hr]
  · intro g h n r o
    rw [(a3 g (ht3 g h)).1 n r o]
    show codeP (wcol V4 g) n _ = _
    rw [h4 g h]; rfl
  · intro n g h o
    rw [a7 n g o, scaleT_apply, hM g h o]; rfl

end Cert.KernelIdeal.Val

end
-- ==== Proof.KernelIdealRegion.lean ====
module

public import Idealize.ShloMosaic.Lib.Pipeline.ValueKit.Geometry
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealArr

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Where the blocks of a grid point lie -/

theorem size0 : ∀ t : Fin grid0.N, win0_0.xsize (grid0.coords t) 0 = 512 ∧ win0_0.xsize (grid0.coords t) 1 = min 1024 (11008 - 1024 * (t.val / 8)) := by decide +kernel
theorem place0 : ∀ t : Fin grid0.N, win0_0.index t 0 = 0 ∧ win0_0.index t 1 = t.val / 8 := by decide +kernel
theorem size2 : ∀ t : Fin grid0.N, win0_2.xsize (grid0.coords t) 0 = 512 ∧ win0_2.xsize (grid0.coords t) 1 = min 1024 (11008 - 1024 * (t.val / 8)) := by decide +kernel
theorem place2 : ∀ t : Fin grid0.N, win0_2.index t 0 = t.val % 8 ∧ win0_2.index t 1 = t.val / 8 := by decide +kernel
theorem size3 : ∀ t : Fin grid0.N, win0_3.xsize (grid0.coords t) 0 = 20 ∧ win0_3.xsize (grid0.coords t) 1 = min 8 (86 - 8 * (t.val / 8)) ∧ win0_3.xsize (grid0.coords t) 2 = 512 := by decide +kernel
theorem place3 : ∀ t : Fin grid0.N, win0_3.index t 0 = 0 ∧ win0_3.index t 1 = t.val / 8 ∧ win0_3.index t 2 = t.val % 8 := by decide +kernel
theorem size4 : ∀ t : Fin grid0.N, win0_4.xsize (grid0.coords t) 0 = min 8 (86 - 8 * (t.val / 8)) ∧ win0_4.xsize (grid0.coords t) 1 = 20 ∧ win0_4.xsize (grid0.coords t) 2 = 64 ∧ win0_4.xsize (grid0.coords t) 3 = 512 := by decide +kernel
theorem place4 : ∀ t : Fin grid0.N, win0_4.index t 0 = t.val / 8 ∧ win0_4.index t 1 = 0 ∧ win0_4.index t 2 = 0 ∧ win0_4.index t 3 = t.val % 8 := by decide +kernel
theorem size5 : ∀ t : Fin grid0.N, win0_5.xsize (grid0.coords t) 0 = 20 ∧ win0_5.xsize (grid0.coords t) 1 = min 8 (86 - 8 * (t.val / 8)) ∧ win0_5.xsize (grid0.coords t) 2 = 512 := by decide +kernel
theorem place5 : ∀ t : Fin grid0.N, win0_5.index t 0 = 0 ∧ win0_5.index t 1 = t.val / 8 ∧ win0_5.index t 2 = t.val % 8 := by decide +kernel
theorem cond_iff : ∀ t : Fin grid0.N, k0_cond1 (grid0.coords t) = 1#1 ↔ t.val % 8 = 0 := by decide +kernel
theorem trips1 : ∀ t : Fin grid0.N, (k0_t1_loop (grid0.coords t)).trips = min 8 (86 - 8 * (t.val / 8)) := by decide +kernel
theorem trips3 : ∀ t : Fin grid0.N, (k0_t3_loop (grid0.coords t)).trips = min 8 (86 - 8 * (t.val / 8)) := by decide +kernel

theorem point_lt (t : Fin grid0.N) : t.val < 88 := Nat.lt_of_lt_of_eq t.isLt N_0

/-- A filled block at an index the transfer moves. -/
theorem fill_at {G : Pipeline.Grid} (w : Window sig G) {α : Type} (i : G.Coords) (d : w.block.Idx → α) (y : (w.xblock i).Idx → α) (j : w.block.Idx)
    (h : ∀ a, (j a).val < w.xsize i a) : w.fill i d y j = y (fun a => ⟨(j a).val, h a⟩) :=
  w.fill_xinj i d y (fun a => ⟨(j a).val, h a⟩)

theorem fill0 (t : Fin grid0.N) (d : S512x1024.Idx → F .fp8e4m3) (A : S512x11008.Idx → F .fp8e4m3) (r : Fin 512) (k : Fin 1024) (h : 1024 * (t.val / 8) + k.val < 11008) :
    win0_0.fill (grid0.coords t) d ((win0_0.blk t).view.read (Elt F) A) (ix2 r k) = A (ix2 r ⟨1024 * (t.val / 8) + k.val, h⟩) := by
  have hm : ∀ a, ((ix2 r k : S512x1024.Idx) a).val < win0_0.xsize (grid0.coords t) a := by
    intro a
    match a with
    | ⟨0, _⟩ => rw [show win0_0.xsize (grid0.coords t) ⟨0, _⟩ = _ from (size0 t).1]; exact r.isLt
    | ⟨1, _⟩ => rw [show win0_0.xsize (grid0.coords t) ⟨1, _⟩ = _ from (size0 t).2]; have := k.isLt; show k.val < _; omega
  refine (fill_at win0_0 (grid0.coords t) d _ _ hm).trans ?_
  show A _ = A _
  refine congrArg A ?_
  funext a; apply Fin.ext
  match a with
  | ⟨0, _⟩ => refine (win0_0.rect_emb_val t _ ⟨0, _⟩ rfl).trans ?_
              rw [show win0_0.index t ⟨0, _⟩ = _ from (place0 t).1]; show 0 * 512 + r.val = r.val; omega
  | ⟨1, _⟩ => refine (win0_0.rect_emb_val t _ ⟨1, _⟩ rfl).trans ?_
              rw [show win0_0.index t ⟨1, _⟩ = _ from (place0 t).2]; show t.val / 8 * 1024 + k.val = 1024 * (t.val / 8) + k.val; omega

theorem fill2 (t : Fin grid0.N) (d : S512x1024.Idx → F .bf16) (A : S4096x11008.Idx → F .bf16) (r : Fin 512) (k : Fin 1024) (h : 1024 * (t.val / 8) + k.val < 11008) :
    win0_2.fill (grid0.coords t) d ((win0_2.blk t).view.read (Elt F) A) (ix2 r k) = A (ix2 ⟨512 * (t.val % 8) + r.val, by have := r.isLt; omega⟩ ⟨1024 * (t.val / 8) + k.val, h⟩) := by
  have hm : ∀ a, ((ix2 r k : S512x1024.Idx) a).val < win0_2.xsize (grid0.coords t) a := by
    intro a
    match a with
    | ⟨0, _⟩ => rw [show win0_2.xsize (grid0.coords t) ⟨0, _⟩ = _ from (size2 t).1]; exact r.isLt
    | ⟨1, _⟩ => rw [show win0_2.xsize (grid0.coords t) ⟨1, _⟩ = _ from (size2 t).2]; have := k.isLt; show k.val < _; omega
  refine (fill_at win0_2 (grid0.coords t) d _ _ hm).trans ?_
  show A _ = A _
  refine congrArg A ?_
  funext a; apply Fin.ext
  match a with
  | ⟨0, _⟩ => refine (win0_2.rect_emb_val t _ ⟨0, _⟩ rfl).trans ?_
              rw [show win0_2.index t ⟨0, _⟩ = _ from (place2 t).1]; show t.val % 8 * 512 + r.val = 512 * (t.val % 8) + r.val; omega
  | ⟨1, _⟩ => refine (win0_2.rect_emb_val t _ ⟨1, _⟩ rfl).trans ?_
              rw [show win0_2.index t ⟨1, _⟩ = _ from (place2 t).2]; show t.val / 8 * 1024 + k.val = 1024 * (t.val / 8) + k.val; omega

theorem cut3 (t : Fin grid0.N) (G : S20x86x4096.Idx → F .f32) (X : S20x8x512.Idx → F .f32)
    (hX : ∀ n (g : Fin 8) (h : 8 * (t.val / 8) + g.val < 86) (o : Fin 512), X (ix3 n g o) = G (ix3 n ⟨8 * (t.val / 8) + g.val, h⟩ ⟨512 * (t.val % 8) + o.val, by have := o.isLt; omega⟩)) :
    win0_3.cut (grid0.coords t) X = (win0_3.blk t).view.read (Elt F) G := by
  funext y
  have b0 : (y 0).val < 20 := lt_of_lt_of_eq (y 0).isLt (size3 t).1
  have b1 : (y 1).val < min 8 (86 - 8 * (t.val / 8)) := lt_of_lt_of_eq (y 1).isLt (size3 t).2.1
  have b2 : (y 2).val < 512 := lt_of_lt_of_eq (y 2).isLt (size3 t).2.2
  have hx : win0_3.xinj (grid0.coords t) y = (ix3 ⟨(y 0).val, b0⟩ ⟨(y 1).val, by omega⟩ ⟨(y 2).val, b2⟩ : S20x8x512.Idx) := by
    funext a
    match a with
    | ⟨0, _⟩ => rfl
    | ⟨1, _⟩ => rfl
    | ⟨2, _⟩ => rfl
  show X (win0_3.xinj (grid0.coords t) y) = G _
  refine (congrArg X hx).trans ((hX ⟨(y 0).val, b0⟩ ⟨(y 1).val, by omega⟩ (by show 8 * (t.val / 8) + (y 1).val < 86; omega) ⟨(y 2).val, b2⟩).trans ?_)
  refine congrArg G ?_
  funext a; apply Fin.ext; symm
  match a with
  | ⟨0, _⟩ => refine (win0_3.rect_emb_val t y ⟨0, _⟩ rfl).trans ?_
              rw [show win0_3.index t ⟨0, _⟩ = _ from (place3 t).1]; show 0 * 20 + (y 0).val = (y 0).val; omega
  | ⟨1, _⟩ => refine (win0_3.rect_emb_val t y ⟨1, _⟩ rfl).trans ?_
              rw [show win0_3.index t ⟨1, _⟩ = _ from (place3 t).2.1]; show t.val / 8 * 8 + (y 1).val = 8 * (t.val / 8) + (y 1).val; omega
  | ⟨2, _⟩ => refine (win0_3.rect_emb_val t y ⟨2, _⟩ rfl).trans ?_
              rw [show win0_3.index t ⟨2, _⟩ = _ from (place3 t).2.2]; show t.val % 8 * 512 + (y 2).val = 512 * (t.val % 8) + (y 2).val; omega

theorem cut5 (t : Fin grid0.N) (G : S20x86x4096.Idx → F .f32) (X : S20x8x512.Idx → F .f32)
    (hX : ∀ n (g : Fin 8) (h : 8 * (t.val / 8) + g.val < 86) (o : Fin 512), X (ix3 n g o) = G (ix3 n ⟨8 * (t.val / 8) + g.val, h⟩ ⟨512 * (t.val % 8) + o.val, by have := o.isLt; omega⟩)) :
    win0_5.cut (grid0.coords t) X = (win0_5.blk t).view.read (Elt F) G := by
  funext y
  have b0 : (y 0).val < 20 := lt_of_lt_of_eq (y 0).isLt (size5 t).1
  have b1 : (y 1).val < min 8 (86 - 8 * (t.val / 8)) := lt_of_lt_of_eq (y 1).isLt (size5 t).2.1
  have b2 : (y 2).val < 512 := lt_of_lt_of_eq (y 2).isLt (size5 t).2.2
  have hx : win0_5.xinj (grid0.coords t) y = (ix3 ⟨(y 0).val, b0⟩ ⟨(y 1).val, by omega⟩ ⟨(y 2).val, b2⟩ : S20x8x512.Idx) := by
    funext a
    match a with
    | ⟨0, _⟩ => rfl
    | ⟨1, _⟩ => rfl
    | ⟨2, _⟩ => rfl
  show X (win0_5.xinj (grid0.coords t) y) = G _
  refine (congrArg X hx).trans ((hX ⟨(y 0).val, b0⟩ ⟨(y 1).val, by omega⟩ (by show 8 * (t.val / 8) + (y 1).val < 86; omega) ⟨(y 2).val, b2⟩).trans ?_)
  refine congrArg G ?_
  funext a; apply Fin.ext; symm
  match a with
  | ⟨0, _⟩ => refine (win0_5.rect_emb_val t y ⟨0, _⟩ rfl).trans ?_
              rw [show win0_5.index t ⟨0, _⟩ = _ from (place5 t).1]; show 0 * 20 + (y 0).val = (y 0).val; omega
  | ⟨1, _⟩ => refine (win0_5.rect_emb_val t y ⟨1, _⟩ rfl).trans ?_
              rw [show win0_5.index t ⟨1, _⟩ = _ from (place5 t).2.1]; show t.val / 8 * 8 + (y 1).val = 8 * (t.val / 8) + (y 1).val; omega
  | ⟨2, _⟩ => refine (win0_5.rect_emb_val t y ⟨2, _⟩ rfl).trans ?_
              rw [show win0_5.index t ⟨2, _⟩ = _ from (place5 t).2.2]; show t.val % 8 * 512 + (y 2).val = 512 * (t.val % 8) + (y 2).val; omega

theorem cut4 (t : Fin grid0.N) (G : S86x20x64x4096.Idx → BitVec 8) (X : S8x20x64x512.Idx → BitVec 8)
    (hX : ∀ (g : Fin 8) (h : 8 * (t.val / 8) + g.val < 86) n r (o : Fin 512), X (ix4 g n r o) = G (ix4 ⟨8 * (t.val / 8) + g.val, h⟩ n r ⟨512 * (t.val % 8) + o.val, by have := o.isLt; omega⟩)) :
    win0_4.cut (grid0.coords t) X = (win0_4.blk t).view.read (Elt F) G := by
  funext y
  have b0 : (y 0).val < min 8 (86 - 8 * (t.val / 8)) := lt_of_lt_of_eq (y 0).isLt (size4 t).1
  have b1 : (y 1).val < 20 := lt_of_lt_of_eq (y 1).isLt (size4 t).2.1
  have b2 : (y 2).val < 64 := lt_of_lt_of_eq (y 2).isLt (size4 t).2.2.1
  have b3 : (y 3).val < 512 := lt_of_lt_of_eq (y 3).isLt (size4 t).2.2.2
  have hx : win0_4.xinj (grid0.coords t) y = (ix4 ⟨(y 0).val, by omega⟩ ⟨(y 1).val, b1⟩ ⟨(y 2).val, b2⟩ ⟨(y 3).val, b3⟩ : S8x20x64x512.Idx) := by
    funext a
    match a with
    | ⟨0, _⟩ => rfl
    | ⟨1, _⟩ => rfl
    | ⟨2, _⟩ => rfl
    | ⟨3, _⟩ => rfl
  show X (win0_4.xinj (grid0.coords t) y) = G _
  refine (congrArg X hx).trans ((hX ⟨(y 0).val, by omega⟩ (by show 8 * (t.val / 8) + (y 0).val < 86; omega) ⟨(y 1).val, b1⟩ ⟨(y 2).val, b2⟩ ⟨(y 3).val, b3⟩).trans ?_)
  refine congrArg G ?_
  funext a; apply Fin.ext; symm
  match a with
  | ⟨0, _⟩ => refine (win0_4.rect_emb_val t y ⟨0, _⟩ rfl).trans ?_
              rw [show win0_4.index t ⟨0, _⟩ = _ from (place4 t).1]; show t.val / 8 * 8 + (y 0).val = 8 * (t.val / 8) + (y 0).val; omega
  | ⟨1, _⟩ => refine (win0_4.rect_emb_val t y ⟨1, _⟩ rfl).trans ?_
              rw [show win0_4.index t ⟨1, _⟩ = _ from (place4 t).2.1]; show 0 * 20 + (y 1).val = (y 1).val; omega
  | ⟨2, _⟩ => refine (win0_4.rect_emb_val t y ⟨2, _⟩ rfl).trans ?_
              rw [show win0_4.index t ⟨2, _⟩ = _ from (place4 t).2.2.1]; show 0 * 64 + (y 2).val = (y 2).val; omega
  | ⟨3, _⟩ => refine (win0_4.rect_emb_val t y ⟨3, _⟩ rfl).trans ?_
              rw [show win0_4.index t ⟨3, _⟩ = _ from (place4 t).2.2.2]; show t.val % 8 * 512 + (y 3).val = 512 * (t.val % 8) + (y 3).val; omega

/-! # What the windows hold -/

/-- The activation codes, the smoothing scales and the weights as the region finds them. -/
abbrev xIn (c : Dev nD) : S512x11008.Idx → F .fp8e4m3 := V m c main_v1
abbrev sIn (c : Dev nD) : Vec F S1x512 .f32 := V m c main_arg1
abbrev wIn (c : Dev nD) : S4096x11008.Idx → F .bf16 := V m c main_arg2

/-- The arrays of the windows: the operands as they are, the results as the region is to leave them. -/
def arrs (c : Dev nD) : (w : Fin 6) → Buf (Elt F) ((cfg0.win w).arr.view.loc (c.tc : Thread nD τ))
  | 0 => xIn m c
  | 1 => sIn m c
  | 2 => wIn m c
  | 3 => arrLoss (xIn m c) (sIn m c) (wIn m c)
  | 4 => arrCode (wIn m c)
  | 5 => arrScale (wIn m c)

/-- What is carried from one grid point to the next: the limb table of the current block of groups. -/
def carry (c : Dev nD) (t : ℕ) : sProp 𝕄 :=
  iprop(((∃ f8 : Buf (Elt F) ((c : Thread nD τ).loc cc0_scratch0), (((c : Thread nD τ).loc cc0_scratch0) ↦{fullShare} f8) ∗ ⌜t % 8 ≠ 0 → TableOK (xIn m c) (sIn m c) (t / 8) f8⌝)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f))
    ∗ ∃ r, prngReg c r)

/-- The proof data of the region. -/
def dats (_ : Fin 1) (c : Dev nD) : Dat τ (Elt F) Unit ℕ (UR sig nD τ) ℕ cfg0 c where
  A w := V m c (Pipeline.arrRef spec0 w)
  after w t := (cfg0.win w).fill (cfg0.grid.coords t) (fun _ => Classical.arbitrary _) (((cfg0.win w).blk t).view.read (Elt F) (arrs m c w))
  Φ t := carry m c t.val
  q _ := fullShare
  owed _ := 0

theorem cut_after (c : Dev nD) (w : Fin 6) (t : Fin cfg0.N) :
    (cfg0.win w).cut (cfg0.grid.coords t) ((dats m 0 c).after w t) = ((cfg0.win w).blk t).view.read (Elt F) (arrs m c w) :=
  (cfg0.win w).cut_fill _ _ _

theorem before0 (c : Dev nD) (t : Fin cfg0.N) (d) : (dats m 0 c).before 0 t d
    = win0_0.fill (grid0.coords t) d ((win0_0.blk t).view.read (Elt F) (xIn m c)) :=
  (dats m 0 c).before_in_eq_fetched 0 rfl (fun _ => rfl) (fun t t' h => by
    funext a
    show Pipeline.Clip.of (win0_0.index t a) _ _ = Pipeline.Clip.of (win0_0.index t' a) _ _
    rw [h]) (fun t => cut_after m c 0 t) t d

theorem before1 (c : Dev nD) (t : Fin cfg0.N) (d) : (dats m 0 c).before 1 t d = (dats m 0 c).after 1 t :=
  ((dats m 0 c).before_in_eq_fetched 1 rfl (fun _ => rfl) (fun _ _ _ => rfl) (fun t => cut_after m c 1 t) t d).trans
    ((dats m 0 c).fetched_of_clip_none 1 t (fun _ => rfl) _ (fun _ => Classical.arbitrary _))

theorem after1 (c : Dev nD) (t : Fin cfg0.N) : (dats m 0 c).after 1 t = sIn m c := by
  funext j
  refine (fill_at win0_1 (grid0.coords t) (fun _ => Classical.arbitrary _) ((win0_1.blk t).view.read (Elt F) (sIn m c)) j (fun a => (j a).isLt)).trans ?_
  show sIn m c _ = sIn m c j
  refine congrArg (sIn m c) ?_
  funext a; apply Fin.ext
  match a with
  | ⟨0, _⟩ => refine (win0_1.rect_emb_val t _ ⟨0, _⟩ rfl).trans ?_
              show 0 * 1 + (j 0).val = (j 0).val; omega
  | ⟨1, _⟩ => refine (win0_1.rect_emb_val t _ ⟨1, _⟩ rfl).trans ?_
              show 0 * 512 + (j 1).val = (j 1).val; omega

theorem before2 (c : Dev nD) (t : Fin cfg0.N) (d) : (dats m 0 c).before 2 t d
    = win0_2.fill (grid0.coords t) d ((win0_2.blk t).view.read (Elt F) (wIn m c)) :=
  (dats m 0 c).before_in_eq_fetched 2 rfl (fun _ => rfl) (fun t t' h => by
    funext a
    show Pipeline.Clip.of (win0_2.index t a) _ _ = Pipeline.Clip.of (win0_2.index t' a) _ _
    rw [h]) (fun t => cut_after m c 2 t) t d

/-- The region leaves each window's array as foretold. -/
theorem arr3 (c : Dev nD) : (dats m 0 c).arrAt 3 cfg0.N = arrLoss (xIn m c) (sIn m c) (wIn m c) :=
  (dats m 0 c).arrAt_eq_of_covers 3 _ (by decide +kernel) (fun t hf y => congrFun (cut_after m c 3 t) y)
theorem arr4 (c : Dev nD) : (dats m 0 c).arrAt 4 cfg0.N = arrCode (wIn m c) :=
  (dats m 0 c).arrAt_eq_of_covers 4 _ (by decide +kernel) (fun t hf y => congrFun (cut_after m c 4 t) y)
theorem arr5 (c : Dev nD) : (dats m 0 c).arrAt 5 cfg0.N = arrScale (wIn m c) :=
  (dats m 0 c).arrAt_eq_of_covers 5 _ (by decide +kernel) (fun t hf y => congrFun (cut_after m c 5 t) y)

end Cert.KernelIdeal.Val

end
-- ==== Proof.KernelIdealPoint.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealTrip
public import proofs.«01_k».proof.Proof.KernelIdealLeft

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The kernel's body at one grid point -/

set_option maxHeartbeats 8000000 in
/-- The kernel's body at one grid point, with what it leaves. -/
theorem body_val (c : Dev nD) (i : grid0.Coords) (arg2 : Memref sig .tc .vmem S512x1024 .fp8e4m3) (harg2 : arg2.IsWhole) (arg3 : Memref sig .tc .vmem S1x512 .f32) (harg3 : arg3.IsWhole) (arg4 : Memref sig .tc .vmem S512x1024 .bf16) (harg4 : arg4.IsWhole) (arg5 : Memref sig .tc .vmem S20x8x512 .f32) (harg5 : arg5.IsWhole) (arg6 : Memref sig .tc .vmem S8x20x64x512 .i8) (harg6 : arg6.IsWhole) (arg7 : Memref sig .tc .vmem S20x8x512 .f32) (harg7 : arg7.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (Y0 : Buf (Elt F) ((Memref.whole cc0_scratch0).view.loc (c : Thread nD τ))) (Y1 : Buf (Elt F) ((Memref.whole cc0_scratch1).view.loc (c : Thread nD τ))) (Y2 : Buf (Elt F) ((Memref.whole cc0_scratch2).view.loc (c : Thread nD τ))) (Y3 : Buf (Elt F) ((Memref.whole cc0_scratch3).view.loc (c : Thread nD τ))) (Q : PUnit → sProp 𝕄) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ ((Memref.whole cc0_scratch0).view.loc (c : Thread nD τ) ↦{fullShare} Y0) ∗ ((Memref.whole cc0_scratch1).view.loc (c : Thread nD τ) ↦{fullShare} Y1) ∗ ((Memref.whole cc0_scratch2).view.loc (c : Thread nD τ) ↦{fullShare} Y2) ∗ ((Memref.whole cc0_scratch3).view.loc (c : Thread nD τ) ↦{fullShare} Y3)
      ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f5 f6 f7 f8, (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ ((Memref.whole cc0_scratch0).view.loc (c : Thread nD τ) ↦{fullShare} f8)
        ∗ ⌜After i (arg2.view.read (Elt F) X2) (scales arg3 X3) (arg4.view.read (Elt F) X4) Y0 f8 (arg5.view.read (Elt F) f5) (arg6.view.read (Elt F) f6) (arg7.view.read (Elt F) f7)⌝)
        ∗ (∃ f, ((Memref.whole cc0_scratch1).view.loc (c : Thread nD τ) ↦{fullShare} f)) ∗ (∃ f, ((Memref.whole cc0_scratch2).view.loc (c : Thread nD τ) ↦{fullShare} f)) ∗ (∃ f, ((Memref.whole cc0_scratch3).view.loc (c : Thread nD τ) ↦{fullShare} f))) -∗ Q ⟨⟩))
    ⊢ wp frame (wpE (defs₀ (F := F)) Variants.none (c : Thread nD τ) none) Set.univ (cc0_awq_clip (F := F) i arg2 harg2 arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _)) Q := by
  iintro ⟨H2, H3, H4, H5, H6, H7, H8, H9, H10, H11, Hk⟩
  by_cases hc : k0_cond1 i = 1#1
  · sl_exec
    sl_step
    iapply Hk
    isplitl [H2]; · iexact H2
    isplitl [H3]; · iexact H3
    isplitl [H4]; · iexact H4
    isplitl [H5 H6 H7 H8]
    · iexists _; iexists _; iexists _; iexists _
      isplitl [H5]; · iexact H5
      isplitl [H6]; · iexact H6
      isplitl [H7]; · iexact H7
      isplitl [H8]; · iexact H8
      ipureintro
      have h1 := since_elim (P := fun k => Done1 (arg2.view.read (Elt F) X2) (scales arg3 X3) k f8L0) (done1_zero _ _ _) (by assumption)
      have h3 := since_elim (P := fun k => Done3 (arg4.view.read (Elt F) X4) f8L0 k (arg6.view.read (Elt F) f6L2) f10L3 f11L4) (done3_zero _ _ _ _ _) (by assumption)
      exact after_of i _ _ _ _ _ arg5 arg7 X5 X7 _ f10L3 f11L4 (fun _ => h1) (fun h => absurd hc h) h3
    isplitl [H9]; · iexists _; iexact H9
    isplitl [H10]; · iexists _; iexact H10
    · iexists _; iexact H11
  · sl_exec
    sl_step
    iapply Hk
    isplitl [H2]; · iexact H2
    isplitl [H3]; · iexact H3
    isplitl [H4]; · iexact H4
    isplitl [H5 H6 H7 H8]
    · iexists _; iexists _; iexists _; iexists _
      isplitl [H5]; · iexact H5
      isplitl [H6]; · iexact H6
      isplitl [H7]; · iexact H7
      isplitl [H8]; · iexact H8
      ipureintro
      have h3 := since_elim (P := fun k => Done3 (arg4.view.read (Elt F) X4) Y0 k (arg6.view.read (Elt F) f6L1) f10L2 f11L3) (done3_zero _ _ _ _ _) (by assumption)
      exact after_of i _ _ _ _ _ arg5 arg7 X5 X7 _ f10L2 f11L3 (fun h => absurd h hc) (fun _ => rfl) h3
    isplitl [H9]; · iexists _; iexact H9
    isplitl [H10]; · iexists _; iexact H10
    · iexists _; iexact H11

end Cert.KernelIdeal.Val

end
-- ==== Proof.KernelIdealValue.lean ====
module

public import proofs.«01_k».proof.Proof.Gen.KernelIdeal.Launch
public import proofs.«01_k».proof.Proof.Gen.KernelIdeal.Points
public import proofs.«01_k».proof.Proof.Gen.KernelIdeal.Frame
public import proofs.«01_k».proof.Proof.KernelIdealRegion
public import proofs.«01_k».proof.Proof.KernelIdealPoint

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The region, and the whole program -/

theorem defs₀_row (t : Fin cfg0.N) :
    defs₀ (F := F) .tc cfg0.body (cfg0.bodyArgs t (cfg0.slots t)) = bodyAt0 t := by
  unfold defs₀; rw [Defs.onTc_tc]

theorem scales_eq (arg3 : Memref sig .tc .vmem S1x512 .f32) (X3 : arg3.view.ty.Contents (Elt F)) : scales arg3 X3 = arg3.view.read (Elt F) X3 := by
  funext j
  show arg3.view.read (Elt F) X3 ((Rect.unit (s := S1x512) ![0, 0] S1x512.size inb_S1x512_S1x512_0_0).emb j) = arg3.view.read (Elt F) X3 j
  refine congrArg _ ?_
  funext a; apply Fin.ext
  match a with
  | ⟨0, _⟩ => show 0 + 1 * (j 0).val = (j 0).val; omega
  | ⟨1, _⟩ => show 0 + 1 * (j 1).val = (j 1).val; omega

/-- What one grid point leaves, in the terms of the windows' blocks. -/
theorem left_blocks (c : Dev nD) (t : Fin cfg0.N) (d0 : S512x1024.Idx → F .fp8e4m3) (d1) (d2 : S512x1024.Idx → F .bf16)
    (x2 : S512x1024.Idx → F .fp8e4m3) (x3 : Vec F S1x512 .f32) (x4 : S512x1024.Idx → F .bf16)
    (h2 : x2 = (dats m 0 c).before 0 t d0) (h3 : x3 = (dats m 0 c).before 1 t d1) (h4 : x4 = (dats m 0 c).before 2 t d2)
    (Y0 f8 : (Memref.whole cc0_scratch0 : Memref sig .tc _ _ _).view.ty.Contents (Elt F))
    (V5 : S20x8x512.Idx → F .f32) (V6 : S8x20x64x512.Idx → BitVec 8) (V7 : S20x8x512.Idx → F .f32)
    (hY : t.val % 8 ≠ 0 → TableOK (xIn m c) (sIn m c) (t.val / 8) Y0)
    (hA : After (grid0.coords t) x2 x3 x4 Y0 f8 V5 V6 V7) :
    ((t.val + 1) % 8 ≠ 0 → TableOK (xIn m c) (sIn m c) ((t.val + 1) / 8) f8)
    ∧ win0_0.cut (grid0.coords t) x2 = win0_0.cut (grid0.coords t) ((dats m 0 c).after 0 t)
    ∧ x3 = (dats m 0 c).after 1 t
    ∧ win0_2.cut (grid0.coords t) x4 = win0_2.cut (grid0.coords t) ((dats m 0 c).after 2 t)
    ∧ win0_3.cut (grid0.coords t) V5 = win0_3.cut (grid0.coords t) ((dats m 0 c).after 3 t)
    ∧ win0_4.cut (grid0.coords t) V6 = win0_4.cut (grid0.coords t) ((dats m 0 c).after 4 t)
    ∧ win0_5.cut (grid0.coords t) V7 = win0_5.cut (grid0.coords t) ((dats m 0 c).after 5 t) := by
  have ht := point_lt t
  rw [before0] at h2
  rw [before1] at h3
  rw [before2] at h4
  have hb : t.val % 8 < 8 := by omega
  obtain ⟨l8, l5, l6, l7⟩ := left_arr (xIn m c) (sIn m c) (wIn m c) (grid0.coords t) (t.val / 8) ⟨t.val % 8, hb⟩ x2 x3 x4 Y0 f8 V5 V6 V7 hA
    (fun g h => by rw [trips1 t]; have := g.isLt; omega) (fun g h => by rw [trips3 t]; have := g.isLt; omega)
    (fun g h => by
      funext y
      have hy : (y 1).val < 128 := (y 1).isLt
      unfold xcol xG
      rw [h2]
      refine (fill0 t d0 (xIn m c) _ _ (by show 1024 * (t.val / 8) + (128 * g.val + (y 1).val) < 11008; omega)).trans ?_
      refine congrArg (xIn m c) ?_
      funext a; apply Fin.ext
      match a with
      | ⟨0, _⟩ => rfl
      | ⟨1, _⟩ => show 1024 * (t.val / 8) + (128 * g.val + (y 1).val) = 128 * (8 * (t.val / 8) + g.val) + (y 1).val; omega)
    (h3.trans (after1 m c t))
    (fun g h => by
      funext y
      have hy : (y 1).val < 128 := (y 1).isLt
      unfold wcol wG
      rw [h4]
      refine (fill2 t d2 (wIn m c) _ _ (by show 1024 * (t.val / 8) + (128 * g.val + (y 1).val) < 11008; omega)).trans ?_
      refine congrArg (wIn m c) ?_
      funext a; apply Fin.ext
      match a with
      | ⟨0, _⟩ => rfl
      | ⟨1, _⟩ => show 1024 * (t.val / 8) + (128 * g.val + (y 1).val) = 128 * (8 * (t.val / 8) + g.val) + (y 1).val; omega)
    (fun hc => hY fun h => hc ((cond_iff t).mpr h))
  have eb : ∀ o : Fin 512, blkOf ⟨512 * (t.val % 8) + o.val, by have := o.isLt; omega⟩ = ⟨t.val % 8, hb⟩ := fun o => Fin.ext (by
    have := o.isLt; show (512 * (t.val % 8) + o.val) / 512 = t.val % 8; omega)
  have ep : ∀ o : Fin 512, posOf ⟨512 * (t.val % 8) + o.val, by have := o.isLt; omega⟩ = o := fun o => Fin.ext (by
    have := o.isLt; show (512 * (t.val % 8) + o.val) % 512 = o.val; omega)
  refine ⟨fun h => ?_, ?_, h3, ?_, ?_, ?_, ?_⟩
  · have e : (t.val + 1) / 8 = t.val / 8 := by omega
    rw [e]; exact l8
  · rw [h2]; exact (win0_0.cut_fill _ _ _).trans (cut_after m c 0 t).symm
  · rw [h4]; exact (win0_2.cut_fill _ _ _).trans (cut_after m c 2 t).symm
  · refine (cut3 t _ V5 fun n g h o => ?_).trans (cut_after m c 3 t).symm
    rw [l5 n g h o]
    show _ = lossG _ _ _ n ⟨8 * (t.val / 8) + g.val, h⟩ (blkOf _) (posOf _)
    rw [eb, ep]
  · refine (cut4 t _ V6 fun g h n r o => ?_).trans (cut_after m c 4 t).symm
    rw [l6 g h n r o]
    show _ = codeG _ ⟨8 * (t.val / 8) + g.val, h⟩ n r (blkOf _) (posOf _)
    rw [eb, ep]
  · refine (cut5 t _ V7 fun n g h o => ?_).trans (cut_after m c 5 t).symm
    rw [l7 n g h o]
    show _ = scaleG _ n ⟨8 * (t.val / 8) + g.val, h⟩ (blkOf _) (posOf _)
    rw [eb, ep]

/-- A buffer before the body. -/
abbrev ownB (c : Dev nD) (t : Fin cfg0.N) (w : Fin 6) : sProp 𝕄 :=
  iprop(∃ d, owns c ((cfg0.win w).stage (cfg0.slots t w)) fullShare ((dats m 0 c).before w t d))

/-- A buffer after the body, known where the transfers move it. -/
abbrev ownA (c : Dev nD) (t : Fin cfg0.N) (w : Fin 6) : sProp 𝕄 :=
  iprop(∃ d, owns c ((cfg0.win w).stage (cfg0.slots t w)) fullShare
    ((cfg0.win w).fill (cfg0.grid.coords t) d ((cfg0.win w).cut (cfg0.grid.coords t) ((dats m 0 c).after w t))))

theorem fill_of_cut (w : Fin 6) (t : Fin cfg0.N) (c : Dev nD) (X : (cfg0.win w).block.Idx → Elt F (cfg0.win w).elt)
    (h : (cfg0.win w).cut (cfg0.grid.coords t) X = (cfg0.win w).cut (cfg0.grid.coords t) ((dats m 0 c).after w t)) :
    X = (cfg0.win w).fill (cfg0.grid.coords t) X ((cfg0.win w).cut (cfg0.grid.coords t) ((dats m 0 c).after w t)) := by
  rw [← h, Window.fill_cut]

theorem sound_body (c : Dev nD) (t : Fin cfg0.N) :
    iprop(carry m c t.castSucc.val ∗ (dats (F := F) m 0 c).owesAt () t.castSucc
        ∗ ownB m c t 0 ∗ ownB m c t 1 ∗ ownB m c t 2 ∗ ownB m c t 3 ∗ ownB m c t 4 ∗ ownB m c t 5)
      ⊢ wp frame (wpE (defs₀ (F := F)) Variants.none (c : Thread nD τ) none) Set.univ (bodyAt0 (F := F) t) fun _ =>
        iprop(carry m c t.succ.val ∗ (dats (F := F) m 0 c).owesAt () t.succ
        ∗ ownA m c t 0 ∗ owns c ((cfg0.win 1).stage (cfg0.slots t 1)) fullShare ((dats m 0 c).after 1 t) ∗ ownA m c t 2 ∗ ownA m c t 3 ∗ ownA m c t 4 ∗ ownA m c t 5) := by
  unfold bodyAt0 carry ownB ownA owns
  iintro ⟨⟨⟨⟨%Y0, S0, %hY⟩, ⟨%Y1, S1⟩, ⟨%Y2, S2⟩, ⟨%Y3, S3⟩⟩, Hg⟩, Hw, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  iapply (body_val (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) X2 X3 X4 X5 X6 X7 Y0 Y1 Y2 Y3 _)
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  iintro ⟨H2, H3, H4, ⟨%Z5, %Z6, %Z7, %f8, H5, H6, H7, S0, %hA⟩, S1, S2, S3⟩
  have key := left_blocks m c t d2 d3 d4 _ _ _ h2 ((scales_eq (st0_1 t) X3).trans h3) h4 Y0 f8 _ _ _ hY hA
  obtain ⟨k8, k2, k3, k4, k5, k6, k7⟩ := key
  isplitl [S0 S1 S2 S3 Hg]
  · isplitl [S0 S1 S2 S3]
    · isplitl [S0]
      · iexists f8
        isplitl [S0]; · iexact S0
        ipureintro; exact k8
      isplitl [S1]; · iexact S1
      isplitl [S2]; · iexact S2
      iexact S3
    iexact Hg
  isplitl [Hw]; · iexact Hw
  isplitl [H2]
  · iexists ((st0_0 t).view.read (Elt F) X2); iexists X2
    isplitr; · ipureintro; exact fill_of_cut m 0 t c _ k2
    iexact H2
  isplitl [H3]
  · iexists X3
    isplitr; · ipureintro; exact (scales_eq (st0_1 t) X3).symm.trans k3
    iexact H3
  isplitl [H4]
  · iexists ((st0_2 t).view.read (Elt F) X4); iexists X4
    isplitr; · ipureintro; exact fill_of_cut m 2 t c _ k4
    iexact H4
  isplitl [H5]
  · iexists ((st0_3 t).view.read (Elt F) Z5); iexists Z5
    isplitr; · ipureintro; exact fill_of_cut m 3 t c _ k5
    iexact H5
  isplitl [H6]
  · iexists ((st0_4 t).view.read (Elt F) Z6); iexists Z6
    isplitr; · ipureintro; exact fill_of_cut m 4 t c _ k6
    iexact H6
  · iexists ((st0_5 t).view.read (Elt F) Z7); iexists Z7
    isplitr; · ipureintro; exact fill_of_cut m 5 t c _ k7
    iexact H7

theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

theorem carry_in (c : Dev nD) : Pipeline.ΦA spec0 c ⊢ (dats (F := F) m 0 c).Φ 0 := by
  show Pipeline.ΦA spec0 c ⊢ carry m c 0
  unfold Pipeline.ΦA carry
  rw [scopedRest0_eq]
  iintro ⟨⟨⟨%Y0, S0⟩, S1, S2, S3⟩, Hg⟩
  isplitl [S0 S1 S2 S3]
  · isplitl [S0]
    · iexists Y0
      isplitl [S0]; · iexact S0
      ipureintro; exact fun h => absurd rfl h
    isplitl [S1]; · iexact S1
    isplitl [S2]; · iexact S2
    iexact S3
  iexact Hg

theorem carry_out (c : Dev nD) : (dats (F := F) m 0 c).Φ (Fin.last cfg0.N) ⊢ Pipeline.ΦA spec0 c := by
  show carry m c cfg0.N ⊢ Pipeline.ΦA spec0 c
  unfold Pipeline.ΦA carry
  rw [scopedRest0_eq]
  iintro ⟨⟨⟨%Y0, S0, %hY⟩, S1, S2, S3⟩, Hg⟩
  isplitl [S0 S1 S2 S3]
  · isplitl [S0]; · iexists Y0; iexact S0
    isplitl [S1]; · iexact S1
    isplitl [S2]; · iexact S2
    iexact S3
  iexact Hg

/-- The loss, the packed codes and the scales as the program returns them. -/
def outLoss (c : Dev nD) : S4096x86x20.Idx → F .f32 := transpose S4096x86x20 [2, 1, 0] (arrLoss (xIn m c) (sIn m c) (wIn m c)) transposes_S20x86x4096_S4096x86x20_2_1_0
def outCode (c : Dev nD) : S4096x86x20x64.Idx → BitVec 8 := transpose S4096x86x20x64 [3, 0, 1, 2] (arrCode (wIn m c)) transposes_S86x20x64x4096_S4096x86x20x64_3_0_1_2
def outScale (c : Dev nD) : S4096x86x20.Idx → F .f32 := transpose S4096x86x20 [2, 1, 0] (arrScale (wIn m c)) transposes_S20x86x4096_S4096x86x20_2_1_0

theorem tail3 (c : Dev nD) : Pipeline.afterTail₀ cfgs (dats m) 0 (V0 m) [hostOps1] c main_v3 = outLoss m c := by
  unfold Pipeline.afterTail₀
  simp only [List.flatten_cons, List.flatten_nil, List.append_nil]
  after_results_simp
  refine congrArg (fun X => transpose S4096x86x20 [2, 1, 0] X transposes_S20x86x4096_S4096x86x20_2_1_0) ?_
  exact (Pipeline.withArrays_arr spec0 launch0.win.arr_inj c (V0 m c) (fun w => (dats m 0 c).arrAt w cfg0.N) 3).trans (arr3 m c)

theorem tail4 (c : Dev nD) : Pipeline.afterTail₀ cfgs (dats m) 0 (V0 m) [hostOps1] c main_v4 = outCode m c := by
  unfold Pipeline.afterTail₀
  simp only [List.flatten_cons, List.flatten_nil, List.append_nil]
  after_results_simp
  refine congrArg (fun X => transpose S4096x86x20x64 [3, 0, 1, 2] X transposes_S86x20x64x4096_S4096x86x20x64_3_0_1_2) ?_
  exact (Pipeline.withArrays_arr spec0 launch0.win.arr_inj c (V0 m c) (fun w => (dats m 0 c).arrAt w cfg0.N) 4).trans (arr4 m c)

theorem tail5 (c : Dev nD) : Pipeline.afterTail₀ cfgs (dats m) 0 (V0 m) [hostOps1] c main_v5 = outScale m c := by
  unfold Pipeline.afterTail₀
  simp only [List.flatten_cons, List.flatten_nil, List.append_nil]
  after_results_simp
  refine congrArg (fun X => transpose S4096x86x20 [2, 1, 0] X transposes_S20x86x4096_S4096x86x20_2_1_0) ?_
  exact (Pipeline.withArrays_arr spec0 launch0.win.arr_inj c (V0 m c) (fun w => (dats m 0 c).arrAt w cfg0.N) 5).trans (arr5 m c)

theorem run : θ_run defs (onTc (τ := τ) (main (F := F))) ⟨m, fun _ => 0, ρ⟩ (fun r => ∀ c : Dev nD,
      r.2.mem ((c.tc : Thread nD τ).loc main_v3) = outLoss m c
      ∧ r.2.mem ((c.tc : Thread nD τ).loc main_v4) = outCode m c
      ∧ r.2.mem ((c.tc : Thread nD τ).loc main_v5) = outScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := carry_in m) (hout := carry_out m)
    (Q' := _) (hQ' := fun r h c =>
      ⟨((h.1 c).2 main_v3 (Pipeline.mem_restRefs_of main_v3 (by decide) (by decide))).trans (tail3 m c),
       ((h.1 c).2 main_v4 (Pipeline.mem_restRefs_of main_v4 (by decide) (by decide))).trans (tail4 m c),
       ((h.1 c).2 main_v5 (Pipeline.mem_restRefs_of main_v5 (by decide) (by decide))).trans (tail5 m c),
       ((h.1 c).2 main_arg0 (Pipeline.mem_restRefs_of main_arg0 (by decide) (by decide))).trans (W_main_arg0 m (dats m) c),
       ((h.1 c).1 1).trans (((dats m 0 c).arrAt_in 1 rfl _).trans (V_main_arg1 m c)),
       ((h.1 c).1 2).trans (((dats m 0 c).arrAt_in 2 rfl _).trans (V_main_arg2 m c))⟩)

end Cert.KernelIdeal.Val

end
-- ==== Proof.Scalar.lean ====
module

public import Idealize.ShloMosaic.Lib.ValueIdx
public import Idealize.ShloMosaic.Lib.IdealHost

@[expose] public section

noncomputable section

namespace Cert.Awq

open Idealize.ShloMosaic

/-! # The scalars of the calibration: magnitudes, ratios, scales and codes -/

/-- The largest magnitude of a group of weights. -/
def mag (f : Fin 128 → EReal) : EReal := (Finset.univ : Finset (Fin 128)).fold max ⊥ fun k => max (f k) (-(f k))

/-- The clipping ratio number `n`. -/
def rat (n : ℕ) : ℝ := 1 - (n : ℝ) / 40

/-- The scale at ratio `r` of a group whose largest magnitude is `a`. -/
def scl (r a : EReal) : EReal := Scalar.select (Ideal.cmp .oeq a 0) 1 (Ideal.div (r * a) ((7 : ℝ) : EReal))

/-- A weight in units of the scale, rounded and clamped to `[-7, 7]`. -/
def clq (t : EReal) : EReal := min ((7 : ℝ) : EReal) (max ((-7 : ℝ) : EReal) (Ideal.liftRound Ideal.roundHalfEven t))

/-- Two codes in one byte. -/
def pack (a b : BitVec 32) : BitVec 8 := ((a &&& 15#32) ||| ((b &&& 15#32) <<< 4)).setWidth 8

theorem rat_pos (n : Fin 20) : 0 < rat n.val := by
  have h : (n.val : ℝ) ≤ 19 := by exact_mod_cast Nat.lt_succ_iff.1 n.isLt
  unfold rat
  have : (n.val : ℝ) / 40 ≤ 19 / 40 := by gcongr
  linarith

theorem ofBits_seven : Ideal.ofBits .f32 0x40E00000#32 = ((7 : ℝ) : EReal) := by
  simp [Ideal.ofBits, Ideal.ieee]; norm_cast; norm_num

theorem ofBits_forty : Ideal.ofBits .f32 0x42200000#32 = ((40 : ℝ) : EReal) := by
  simp [Ideal.ofBits, Ideal.ieee]; norm_cast; norm_num

theorem ofBits_bot : Ideal.ofBits .f32 0xFF800000#32 = ⊥ := by
  simp [Ideal.ofBits, Ideal.ieee]

theorem one_sub_div (x : ℝ) : (1 : EReal) - Ideal.div ((x : ℝ) : EReal) ((40 : ℝ) : EReal) = ((1 - x / 40 : ℝ) : EReal) := by
  rw [Ideal.div_coe (by norm_num), ← EReal.coe_mul, ← EReal.coe_one, ← EReal.coe_sub]
  congr 1; ring

theorem coe_fold (f : Fin 128 → ℝ) : ∃ a : ℝ, mag (fun k => (f k : EReal)) = (a : EReal) ∧ 0 ≤ a ∧ (a = 0 → ∀ k, f k = 0) := by
  have hb : ∀ k, ((|f k| : ℝ) : EReal) ≤ mag (fun k => (f k : EReal)) := by
    intro k
    refine Finset.le_fold_max _ |>.2 (Or.inr ⟨k, Finset.mem_univ _, ?_⟩)
    show _ ≤ max ((f k : ℝ) : EReal) (-((f k : ℝ) : EReal))
    rw [← EReal.coe_neg, abs_eq_max_neg]
    rcases le_total (f k) (-(f k)) with h | h
    · rw [max_eq_right h]; exact le_max_right _ _
    · rw [max_eq_left h]; exact le_max_left _ _
  have ht : mag (fun k => (f k : EReal)) < ⊤ := by
    refine Finset.fold_max_lt _ |>.2 ⟨bot_lt_top, fun k _ => ?_⟩
    show max ((f k : ℝ) : EReal) (-((f k : ℝ) : EReal)) < ⊤
    rw [← EReal.coe_neg]
    exact max_lt (EReal.coe_lt_top _) (EReal.coe_lt_top _)
  have h0 : (0 : EReal) ≤ mag (fun k => (f k : EReal)) := le_trans (by exact_mod_cast abs_nonneg (f 0)) (hb 0)
  have hn : mag (fun k => (f k : EReal)) ≠ ⊥ := fun h => by rw [h] at h0; exact absurd h0 (by simp)
  refine ⟨(mag (fun k => (f k : EReal))).toReal, (EReal.coe_toReal ht.ne hn).symm, EReal.toReal_nonneg h0, fun ha k => ?_⟩
  have := hb k
  rw [← EReal.coe_toReal ht.ne hn, ha] at this
  exact abs_nonpos_iff.1 (by exact_mod_cast this)

/-- The scale over the reals. -/
def sclR (r a : ℝ) : ℝ := if a = 0 then 1 else r * a / 7

theorem scl_coe (r a : ℝ) : scl (r : EReal) (a : EReal) = (sclR r a : EReal) := by
  unfold scl sclR Ideal.cmp
  by_cases h : a = 0
  · subst h; simp [Scalar.select]
  · have : ((a : ℝ) : EReal) ≠ 0 := by exact_mod_cast h
    simp only [this, decide_false, BitVec.ofBool_false, if_neg h]
    show Ideal.div _ _ = _
    rw [Ideal.div_coe (by norm_num), ← EReal.coe_mul, ← EReal.coe_mul]
    congr 1; ring

theorem sclR_pos {r a : ℝ} (hr : 0 < r) (ha : 0 ≤ a) : 0 < sclR r a := by
  unfold sclR
  split
  · norm_num
  · have : 0 < a := lt_of_le_of_ne ha (Ne.symm ‹_›)
    positivity

/-- A scale is never zero, whatever the weights. -/
theorem scl_ne_zero {r : ℝ} (hr : 0 < r) (a : EReal) : scl (r : EReal) a ≠ 0 := by
  unfold scl Ideal.cmp
  by_cases h : a = 0
  · subst h; simp [Scalar.select]
  · simp only [h, decide_false, BitVec.ofBool_false]
    show Ideal.div _ _ ≠ _
    rw [Ideal.div_coe (by norm_num)]
    refine mul_ne_zero (mul_ne_zero ?_ h) ?_
    · exact_mod_cast hr.ne'
    · norm_cast; norm_num

theorem clq_int (t : EReal) : ∃ z : ℤ, -7 ≤ z ∧ z ≤ 7 ∧ clq t = ((z : ℝ) : EReal) := by
  unfold clq
  induction t using EReal.rec with
  | bot => exact ⟨-7, by norm_num, by norm_num, by
      rw [Ideal.liftRound_bot, max_eq_left bot_le, min_eq_right]
      · push_cast; rfl
      · norm_cast⟩
  | top => exact ⟨7, by norm_num, by norm_num, by
      rw [Ideal.liftRound_top, max_eq_right le_top, min_eq_left le_top]; push_cast; rfl⟩
  | coe r =>
    refine ⟨min 7 (max (-7) (Ideal.roundHalfEven r)), ?_, min_le_left _ _, ?_⟩
    · exact le_min (by norm_num) (le_max_left _ _)
    · rw [Ideal.liftRound_coe]
      push_cast
      rw [EReal.coe_strictMono.monotone.map_min, EReal.coe_strictMono.monotone.map_max]
      norm_cast

theorem clq_zero : clq 0 = ((0 : ℝ) : EReal) := by
  unfold clq
  have : Ideal.liftRound Ideal.roundHalfEven (0 : EReal) = ((0 : ℝ) : EReal) := by
    rw [← EReal.coe_zero, Ideal.liftRound_coe]; simp [Ideal.roundHalfEven]
  rw [this, max_eq_right, min_eq_right]
  · norm_cast
  · norm_cast

theorem fptosi_int (w : ℕ) (hw : 4 ≤ w) (z : ℤ) (h0 : -7 ≤ z) (h1 : z ≤ 7) : Ideal.fptosi w ((z : ℝ) : EReal) = BitVec.ofInt w z := by
  unfold Ideal.fptosi Ideal.toIntClamped
  have h8 : (8 : ℕ) ≤ 2 ^ (w - 1) := by
    calc (8 : ℕ) = 2 ^ 3 := rfl
      _ ≤ 2 ^ (w - 1) := Nat.pow_le_pow_right (by norm_num) (by omega)
  have h9 : ((8 : ℕ) : ℤ) ≤ ((2 ^ (w - 1) : ℕ) : ℤ) := by exact_mod_cast h8
  show BitVec.ofInt w (max _ (min _ (if (0 : ℝ) ≤ (z : ℝ) then ⌊(z : ℝ)⌋ else ⌈(z : ℝ)⌉))) = _
  rw [Int.floor_intCast, Int.ceil_intCast, ite_self]
  congr 1
  omega

theorem sitofp_fptosi (t : EReal) : (((Ideal.fptosi 32 (clq t)).toInt : ℝ) : EReal) = clq t := by
  obtain ⟨z, h0, h1, e⟩ := clq_int t
  rw [e, fptosi_int 32 (by norm_num) z h0 h1]
  have : (BitVec.ofInt 32 z).toInt = z := by
    rw [BitVec.toInt_ofInt]
    exact Int.bmod_eq_of_le (by norm_num; omega) (by norm_num; omega)
  rw [this]

/-- Narrowing a code to four bits on the way does not change its low four bits. -/
theorem narrow (t : EReal) :
    ((((Ideal.fptosi 16 (clq t)).setWidth 8).setWidth 4).signExtend 32) &&& 15#32 = (Ideal.fptosi 32 (clq t)) &&& 15#32 := by
  obtain ⟨z, h0, h1, e⟩ := clq_int t
  rw [e, fptosi_int 16 (by norm_num) z h0 h1, fptosi_int 32 (by norm_num) z h0 h1]
  interval_cases z <;> decide

/-! ## The loss over the reals -/

theorem loss_real (g : Fin 128 → Fin 128 → ℝ) (hg : ∀ i j, g i j = g j i) (w z : Fin 128 → ℝ) (a r : ℝ)
    (hr : 0 < r) (ha : 0 ≤ a) (hw : a = 0 → ∀ k, w k = 0) (hz : a = 0 → ∀ k, z k = 0) :
    (∑ i, (w i * (1 / sclR r a) - z i) * ((∑ j, g i j * 1 * w j) * (1 / sclR 1 a) - ∑ j, g i j * r * z j)) * sclR 1 a * sclR r a
      = ∑ i, (∑ j, g j i * (w j - z j * sclR r a)) * (w i - z i * sclR r a) := by
  by_cases h : a = 0
  · simp [hw h, hz h]
  · have h' : 0 < a := lt_of_le_of_ne ha (Ne.symm h)
    have e1 : sclR 1 a = a / 7 := by unfold sclR; rw [if_neg h]; ring
    have e2 : sclR r a = r * a / 7 := by unfold sclR; rw [if_neg h]
    rw [e1, e2, Finset.sum_mul, Finset.sum_mul]
    refine Finset.sum_congr rfl fun i _ => ?_
    have e3 : ∑ j, g j i * (w j - z j * (r * a / 7)) = (∑ j, g i j * 1 * w j) - (∑ j, g i j * r * z j) * (a / 7) := by
      rw [Finset.sum_mul, ← Finset.sum_sub_distrib]
      refine Finset.sum_congr rfl fun j _ => ?_
      rw [hg j i]; ring
    rw [e3]
    field_simp

end Cert.Awq

end
-- ==== Proof.KernelIdealElem.lean ====
module

public import proofs.«01_k».proof.Proof.KernelIdealArr
public import proofs.«01_k».proof.Proof.Scalar
public import Idealize.ShloMosaic.Lib.MatmulPlain
public import Idealize.ShloMosaic.Lib.VecWindow

@[expose] public section

set_option maxRecDepth 16384

noncomputable section

namespace Cert.KernelIdeal.Val

open Cert.KernelIdeal Cert.KernelIdeal.Gen Cert.Awq
open Idealize.ShloMosaic Idealize.ShloMosaic.TcCoe Idealize.ShloMosaic.Tactic
open Idealize.ShloMosaic.ValueIdx

/-! # The kernel's values at an element, over the extended reals -/

/-- The weights of output channel `o` of a block. -/
def wRow (W : Vec Ideal S512x128 .bf16) (o : Fin 512) : Fin 128 → EReal := fun k => W (ix2 o k)

theorem pay74_apply (W : Vec Ideal S512x128 .bf16) (k : Fin 128) (o : Fin 512) : k0_pay74 (F := Ideal) W (ix2 k o) = wRow W o k := by
  unfold k0_pay74
  exact transpose_apply [1, 0] W transposes_S512x128_p1_0_S128x512 (ix2 k o) (ix2 o k) fun b => by match b with | ⟨0, _⟩ => rfl | ⟨1, _⟩ => rfl

theorem pay75_apply (W : Vec Ideal S512x128 .bf16) (k : Fin 128) (o : Fin 512) : k0_pay75 (F := Ideal) W (ix2 k o) = wRow W o k :=
  pay74_apply W k o

theorem pay76_apply (W : Vec Ideal S512x128 .bf16) (o : Fin 512) : k0_pay76 (F := Ideal) W (ix2 0 o) = mag (wRow W o) := by
  unfold k0_pay76
  show shapeCast S1x512 _ _ _ = _
  rw [shapeCast_a_1a_apply]
  refine (Ideal.multiReduction_maximumf_single _ _ _ _ _ _).trans ?_
  unfold mag
  rw [show (FloatOps.ofBits .f32 0xFF800000#32 : Ideal .f32) = (⊥ : EReal) from ofBits_bot]
  refine congrArg (fun f => Finset.univ.fold max (⊥ : EReal) f) ?_
  funext k
  have e : reduces_S128x512_S512.lift (ix1 o) k = (ix2 k o : S128x512.Idx) := by
    funext a; apply Fin.ext
    match a with
    | ⟨0, _⟩ => rfl
    | ⟨1, _⟩ => rfl
  show absf (k0_pay75 W) _ = _
  rw [e]
  exact congrArg (fun x : EReal => max x (-x)) (pay75_apply W k o)

theorem amaxE_eq (W : Vec Ideal S512x128 .bf16) (o : Fin 512) : amaxE W o = mag (wRow W o) := by
  unfold amaxE k0_pay77
  show shapeCast S1x512 _ _ _ = _
  rw [shapeCast_self, pay76_apply]

theorem ratioBits_eq (n : Fin 20) : Ideal.ofBits .f32 (ratioBits n) = ((n.val : ℝ) : EReal) := by
  fin_cases n <;> simp [ratioBits, Ideal.ofBits, Ideal.ieee] <;> norm_cast <;> norm_num

theorem scaleE_ratio (n : Fin 20) (a : EReal) : scaleE (F := Ideal) (Scalar.ofBits .f32 (ratioBits n)) a = scl (rat n.val : EReal) a := by
  unfold scaleE scaleB scl
  show Scalar.select (Ideal.cmp .oeq a (Ideal.ofBits .f32 0x00000000#32)) (Ideal.ofBits .f32 0x3F800000#32)
    (Ideal.div ((Ideal.ofBits .f32 0x3F800000#32 - Ideal.div (Ideal.ofBits .f32 (ratioBits n)) (Ideal.ofBits .f32 0x42200000#32)) * a) (Ideal.ofBits .f32 0x40E00000#32)) = _
  rw [Ideal.ofBits_zero_f32, Ideal.ofBits_one_f32, ofBits_seven, ofBits_forty, ratioBits_eq, one_sub_div]
  rfl

theorem ratio_coe (n : Fin 20) : (Ideal.ofBits .f32 0x3F800000#32 - Ideal.div (Ideal.ofBits .f32 (ratioBits n)) (Ideal.ofBits .f32 0x42200000#32) : EReal) = (rat n.val : EReal) := by
  rw [Ideal.ofBits_one_f32, ofBits_forty, ratioBits_eq, one_sub_div]
  rfl

theorem pay684_apply (n : Fin 24) (o : Fin 512) : k0_pay684 (F := Ideal) (ix2 n o) = (rat n.val : EReal) := by
  unfold k0_pay684
  have hi : (iota .tc S24x512 32 [0] iota_S24x512_d0_w32 : IVec S24x512 32) (ix2 n o) = BitVec.ofNat 32 n.val :=
    iota_single_apply .tc S24x512 32 0 iota_S24x512_d0_w32 (ix2 n o)
  have ht : (BitVec.ofNat 32 n.val).toInt = (n.val : ℤ) := by
    have h := n.isLt
    have e : (BitVec.ofNat 32 n.val).toNat = n.val := by rw [BitVec.toNat_ofNat]; exact Nat.mod_eq_of_lt (by omega)
    rw [BitVec.toInt_eq_toNat_of_lt (by rw [e]; omega), e]
  simp only [subf_apply, divf_apply, broadcast_apply, sitofp_apply, hi]
  show Ideal.ofBits .f32 0x3F800000#32 - Ideal.div (((BitVec.ofNat 32 n.val).toInt : ℝ) : EReal) (Ideal.ofBits .f32 0x42200000#32) = _
  rw [Ideal.ofBits_one_f32, ofBits_forty, ht]
  exact one_sub_div _

theorem bcast_row {α : Type} (x : S1x512.Idx → α) (n : Fin 24) (o : Fin 512) : broadcastTo S24x512 x broadcasts_S1x512_S24x512 (ix2 n o) = x (ix2 0 o) :=
  broadcastTo_apply x _ (ix2 n o) (ix2 0 o) fun a => by match a with | ⟨0, _⟩ => rfl | ⟨1, _⟩ => rfl

theorem bcast_row128 {α : Type} (x : S1x512.Idx → α) (k : Fin 128) (o : Fin 512) : broadcastTo S128x512 x broadcasts_S1x512_S128x512 (ix2 k o) = x (ix2 0 o) :=
  broadcastTo_apply x _ (ix2 k o) (ix2 0 o) fun a => by match a with | ⟨0, _⟩ => rfl | ⟨1, _⟩ => rfl

theorem invP_apply (W : Vec Ideal S512x128 .bf16) (n : Fin 24) (o : Fin 512) :
    invP (F := Ideal) W (ix2 n o) = Ideal.div 1 (scl (rat n.val : EReal) (mag (wRow W o))) := by
  unfold invP k0_pay78
  simp only [shapeCast_self, divf_apply, select_apply, mulf_apply, broadcast_apply, bcast_row, cmpf_apply, pay684_apply, pay76_apply]
  show Ideal.div (Ideal.ofBits .f32 0x3F800000#32) (Scalar.select (Ideal.cmp .oeq _ (Ideal.ofBits .f32 0x00000000#32)) (Ideal.ofBits .f32 0x3F800000#32)
    (Ideal.div _ (Ideal.ofBits .f32 0x40E00000#32))) = _
  rw [Ideal.ofBits_one_f32, Ideal.ofBits_zero_f32, ofBits_seven]
  rfl

/-- One over the scale of channel `o` at ratio `n`. -/
def invE (W : Vec Ideal S512x128 .bf16) (n : Fin 20) (o : Fin 512) : EReal := Ideal.div 1 (scl (rat n.val : EReal) (mag (wRow W o)))

theorem readCov_row {F : FTy → Type} [FloatOps F] (X : FVec F S24x512 .f32) (n : Fin 20) (o : Fin 512) :
    ((Memref.whole cc0_scratch1).view.readCov (Val := Elt F) [⟨Rect.unit (s := S24x512) ![0, 0] S24x512.size inb_S24x512_S24x512_0_0, X⟩]
      (Rect.unit (s := S24x512) ![n.val, 0] S1x512.size (inb_row24 n)).toLoadRect) (ix2 0 o) = X (ix2 ⟨n.val, by omega⟩ o) :=
  View.read_writes_cons_unit_of_mem (Val := Elt F) (Memref.whole cc0_scratch1).view (View.junk _) inb_S24x512_S24x512_0_0 X []
    ((Rect.unit (s := S24x512) ![n.val, 0] S1x512.size (inb_row24 n)).toLoadRect.idx (ix2 0 o)) (ix2 ⟨n.val, by omega⟩ o) rfl fun a => by
      match a with
      | ⟨0, _⟩ => show n.val + 1 * 0 = 0 + n.val; omega
      | ⟨1, _⟩ => show 0 + 1 * o.val = 0 + o.val; omega

theorem rowP_apply (W : Vec Ideal S512x128 .bf16) (n : Fin 20) (o : Fin 512) : rowP (F := Ideal) W n (ix2 0 o) = invE W n o :=
  (readCov_row (invP (F := Ideal) W) n o).trans (invP_apply W ⟨n.val, by omega⟩ o)

/-- A weight in units of its scale, as the kernel forms it. -/
def tE (W : Vec Ideal S512x128 .bf16) (n : Fin 20) (o : Fin 512) (k : Fin 128) : EReal := wRow W o k * invE W n o

theorem tE_eq (W : Vec Ideal S512x128 .bf16) (n : Fin 20) (o : Fin 512) (k : Fin 128) :
    tE W n o k = Ideal.div (wRow W o k) (scl (rat n.val : EReal) (mag (wRow W o))) :=
  Ideal.mul_one_div (scl_ne_zero (rat_pos n) _)

theorem pay80_apply (W : Vec Ideal S512x128 .bf16) (n : Fin 20) (k : Fin 128) (o : Fin 512) :
    k0_pay80 (F := Ideal) (k0_pay75 W) (rowP W n) (ix2 k o) = tE W n o k := by
  unfold k0_pay80
  show k0_pay75 (F := Ideal) W (ix2 k o) * broadcastTo S128x512 (rowP W n) broadcasts_S1x512_S128x512 (ix2 k o) = _
  rw [bcast_row128, pay75_apply, rowP_apply]
  rfl

theorem pay81_apply (W : Vec Ideal S512x128 .bf16) (n : Fin 20) (k : Fin 128) (o : Fin 512) :
    k0_pay81 (F := Ideal) (k0_pay75 W) (rowP W n) (ix2 k o) = clq (tE W n o k) := by
  unfold k0_pay81
  show min (((7#32 : BitVec 32).toInt : ℝ) : EReal) (max (((4294967289#32 : BitVec 32).toInt : ℝ) : EReal)
    (Ideal.liftRound Ideal.roundHalfEven (k0_pay80 (F := Ideal) (k0_pay75 W) (rowP W n) (ix2 k o)))) = _
  rw [pay80_apply, show (7#32 : BitVec 32).toInt = 7 from by decide, show (4294967289#32 : BitVec 32).toInt = -7 from by decide]
  unfold clq
  norm_cast

/-- The packing of a block of codes. -/
def packP (q : FVec Ideal S128x512 .f32) : IVec S1x1x64x512 8 :=
  let X : IVec S64x2x512 32 := shapeCast S64x2x512 (extsi 32 (trunci 4 (trunci 8 (fptosi 16 q) natLt_8_16) natLt_4_8) natLt_4_32) shapeCasts_S128x512_S64x2x512
  shapeCast S1x1x64x512 (trunci 8 (ori (andi (shapeCast S64x512 (extractStridedSlice S64x1x512 ![0, 0, 0] X slices_S64x2x512_o0_0_0_S64x1x512) shapeCasts_S64x1x512_S64x512) (broadcast S64x512 15#32))
    (shli (andi (shapeCast S64x512 (extractStridedSlice S64x1x512 ![0, 1, 0] X slices_S64x2x512_o0_1_0_S64x1x512) shapeCasts_S64x1x512_S64x512) (broadcast S64x512 15#32)) (broadcast S64x512 4#32))) natLt_8_32)
    shapeCasts_S64x512_S1x1x64x512

theorem half_apply (X : S128x512.Idx → BitVec 32) (b : Fin 2) (off : Fin 3 → ℕ) (hoff : off = ![0, b.val, 0]) (h : S64x2x512.Slices off S64x1x512) (r : Fin 64) (o : Fin 512) :
    shapeCast S64x512 (extractStridedSlice S64x1x512 off (shapeCast S64x2x512 X shapeCasts_S128x512_S64x2x512) h) shapeCasts_S64x1x512_S64x512 (ix2 r o)
      = X (ix2 ⟨2 * r.val + b.val, by omega⟩ o) := by
  subst hoff
  rw [shapeCast_apply _ shapeCasts_S64x1x512_S64x512 (ix2 r o) (ix3 r 0 o) (by
    rw [Shape.rowMajor_val_two, Shape.rowMajor_val_three]; show (r.val * 1 + 0) * 512 + o.val = r.val * 512 + o.val; omega)]
  rw [extractStridedSlice_apply _ _ h (ix3 r 0 o) (ix3 r b o) (fun a => by
    match a with
    | ⟨0, _⟩ => show r.val = 0 + r.val; omega
    | ⟨1, _⟩ => show b.val = b.val + 0; omega
    | ⟨2, _⟩ => show o.val = 0 + o.val; omega)]
  exact shapeCast_apply _ shapeCasts_S128x512_S64x2x512 (ix3 r b o) (ix2 ⟨2 * r.val + b.val, by omega⟩ o) (by
    rw [Shape.rowMajor_val_two, Shape.rowMajor_val_three]; show (2 * r.val + b.val) * 512 + o.val = (r.val * 2 + b.val) * 512 + o.val; omega)

theorem shli_four (x : BitVec 32) : IntOp.shli .vector x 4#32 = x <<< 4 := by
  unfold IntOp.shli
  rw [if_pos (by decide)]
  rfl

theorem packP_apply (q : FVec Ideal S128x512 .f32) (r : Fin 64) (o : Fin 512) (t : Fin 128 → EReal) (hq : ∀ k, q (ix2 k o) = clq (t k)) :
    packP q (ix4 0 0 r o) = pack (Ideal.fptosi 32 (clq (t ⟨2 * r.val, by omega⟩))) (Ideal.fptosi 32 (clq (t ⟨2 * r.val + 1, by omega⟩))) := by
  unfold packP
  rw [shapeCast_apply _ shapeCasts_S64x512_S1x1x64x512 (ix4 0 0 r o) (ix2 r o) (by
    rw [Shape.rowMajor_val_two, Shape.rowMajor_val_four]; show r.val * 512 + o.val = ((0 * 1 + 0) * 64 + r.val) * 512 + o.val; omega)]
  have h0 := half_apply (extsi 32 (trunci 4 (trunci 8 (fptosi 16 q) natLt_8_16) natLt_4_8) natLt_4_32) 0 _ rfl slices_S64x2x512_o0_0_0_S64x1x512 r o
  have h1 := half_apply (extsi 32 (trunci 4 (trunci 8 (fptosi 16 q) natLt_8_16) natLt_4_8) natLt_4_32) 1 _ rfl slices_S64x2x512_o0_1_0_S64x1x512 r o
  have hn : ∀ k : Fin 128, (extsi 32 (trunci 4 (trunci 8 (fptosi 16 q) natLt_8_16) natLt_4_8) natLt_4_32) (ix2 k o) &&& 15#32 = Ideal.fptosi 32 (clq (t k)) &&& 15#32 := by
    intro k
    rw [← narrow, ← hq k]
    rfl
  unfold pack
  rw [← hn, ← hn, ← shli_four]
  unfold trunci ori andi shli
  simp only [broadcast_apply]
  exact congrArg₂ (fun a b : BitVec 32 => (IntOp.ori (IntOp.andi a 15#32) (IntOp.shli .vector (IntOp.andi b 15#32) 4#32)).setWidth 8) h0 h1

/-- The packed codes. -/
theorem codeP_apply (W : Vec Ideal S512x128 .bf16) (n : Fin 20) (r : Fin 64) (o : Fin 512) :
    codeP (F := Ideal) W n (ix4 0 0 r o)
      = pack (Ideal.fptosi 32 (clq (tE W n o ⟨2 * r.val, by omega⟩))) (Ideal.fptosi 32 (clq (tE W n o ⟨2 * r.val + 1, by omega⟩))) :=
  packP_apply (k0_pay81 (F := Ideal) (k0_pay75 W) (rowP W n)) r o (tE W n o) fun k => pay81_apply W n k o

end Cert.KernelIdeal.Val

end
-- ==== Proof.KernelIdealLoss.lean ====
module

public import proofs.«01_k».proof.Proof.KernelIdealElem

@[expose] public section

set_option maxRecDepth 16384

noncomputable section

namespace Cert.KernelIdeal.Val

open Cert.KernelIdeal Cert.KernelIdeal.Gen Cert.Awq
open Idealize.ShloMosaic Idealize.ShloMosaic.TcCoe Idealize.ShloMosaic.Tactic
open Idealize.ShloMosaic.ValueIdx

/-! # The kernel's loss at an element, over the reals -/

theorem sum384 (f : Fin 384 → EReal) :
    ∑ k, f k = ∑ k : Fin 128, f ⟨k.val, by omega⟩ + (∑ k : Fin 128, f ⟨128 + k.val, by omega⟩ + ∑ k : Fin 128, f ⟨256 + k.val, by omega⟩) := by
  have h := Fin.sum_univ_add (a := 128) (b := 256) f
  have h2 := Fin.sum_univ_add (a := 128) (b := 128) (fun k : Fin 256 => f (Fin.natAdd 128 k))
  refine h.trans (congrArg₂ (· + ·) rfl (h2.trans (congrArg₂ (· + ·) rfl ?_)))
  refine Finset.sum_congr rfl fun k _ => congrArg f (Fin.ext ?_)
  show 128 + (128 + k.val) = 256 + k.val
  omega

/-- Three copies stacked, read in copy `p`. -/
theorem stack_apply (R : FVec Ideal S128x512 .bf16) (p : Fin 3) (k : Fin 128) (o : Fin 512) (j : Fin 384) (hj : j.val = 128 * p.val + k.val) :
    concatenate S384x512 0 [⟨S128x512, R⟩, ⟨S128x512, R⟩, ⟨S128x512, R⟩] concatenates_S128x512_S128x512_S128x512_S384x512_d0 (ix2 j o) = R (ix2 k o) := by
  have hi : ∀ b : Fin S128x512.rank, b.cast (rfl : S128x512.rank = S384x512.rank) ≠ 0 → ((ix2 k o : S128x512.Idx) b).val = ((ix2 j o : S384x512.Idx) (b.cast rfl)).val := by
    intro b hb
    match b with
    | ⟨0, _⟩ => exact absurd rfl hb
    | ⟨1, _⟩ => rfl
  match p with
  | ⟨0, _⟩ => exact concatenate_apply_piece 0 [⟨S128x512, R⟩, ⟨S128x512, R⟩, ⟨S128x512, R⟩] _ (ix2 j o) 0 (by show 0 < 3; omega) S128x512 R rfl rfl 0 rfl (ix2 k o) hi (by show 0 + k.val = j.val; rw [hj]; show 0 + k.val = 128 * 0 + k.val; omega)
  | ⟨1, _⟩ => exact concatenate_apply_piece 0 [⟨S128x512, R⟩, ⟨S128x512, R⟩, ⟨S128x512, R⟩] _ (ix2 j o) 1 (by show 1 < 3; omega) S128x512 R rfl rfl 128 rfl (ix2 k o) hi (by show 128 + k.val = j.val; rw [hj]; rfl)
  | ⟨2, _⟩ => exact concatenate_apply_piece 0 [⟨S128x512, R⟩, ⟨S128x512, R⟩, ⟨S128x512, R⟩] _ (ix2 j o) 2 (by show 2 < 3; omega) S128x512 R rfl rfl 256 rfl (ix2 k o) hi (by show 256 + k.val = j.val; rw [hj]; rfl)

/-- Three planes side by side, read in plane `p`. -/
theorem beside_apply (A : Fin 3 → FVec Ideal S128x128 .bf16) (p : Fin 3) (i k : Fin 128) (j : Fin 384) (hj : j.val = 128 * p.val + k.val) :
    concatenate S128x384 1 [⟨S128x128, A 0⟩, ⟨S128x128, A 1⟩, ⟨S128x128, A 2⟩] concatenates_S128x128_S128x128_S128x128_S128x384_d1 (ix2 i j) = A p (ix2 i k) := by
  have hi : ∀ b : Fin S128x128.rank, b.cast (rfl : S128x128.rank = S128x384.rank) ≠ 1 → ((ix2 i k : S128x128.Idx) b).val = ((ix2 i j : S128x384.Idx) (b.cast rfl)).val := by
    intro b hb
    match b with
    | ⟨0, _⟩ => rfl
    | ⟨1, _⟩ => exact absurd rfl hb
  match p with
  | ⟨0, _⟩ => exact concatenate_apply_piece 1 [⟨S128x128, A 0⟩, ⟨S128x128, A 1⟩, ⟨S128x128, A 2⟩] _ (ix2 i j) 0 (by show 0 < 3; omega) S128x128 (A 0) rfl rfl 0 rfl (ix2 i k) hi (by show 0 + k.val = j.val; rw [hj]; show 0 + k.val = 128 * 0 + k.val; omega)
  | ⟨1, _⟩ => exact concatenate_apply_piece 1 [⟨S128x128, A 0⟩, ⟨S128x128, A 1⟩, ⟨S128x128, A 2⟩] _ (ix2 i j) 1 (by show 1 < 3; omega) S128x128 (A 1) rfl rfl 128 rfl (ix2 i k) hi (by show 128 + k.val = j.val; rw [hj]; rfl)
  | ⟨2, _⟩ => exact concatenate_apply_piece 1 [⟨S128x128, A 0⟩, ⟨S128x128, A 1⟩, ⟨S128x128, A 2⟩] _ (ix2 i j) 2 (by show 2 < 3; omega) S128x128 (A 2) rfl rfl 256 rfl (ix2 i k) hi (by show 256 + k.val = j.val; rw [hj]; rfl)

theorem mm384 (L : FVec Ideal S128x384 .bf16) (R : FVec Ideal S128x512 .bf16) (i : Fin 128) (o : Fin 512) :
    matmul dot_S128x384_S384x512_S128x512_1_0_0_1_n_n none L (concatenate S384x512 0 [⟨S128x512, R⟩, ⟨S128x512, R⟩, ⟨S128x512, R⟩] concatenates_S128x512_S128x512_S128x512_S384x512_d0)
        (constant S128x512 .f32 0x00000000#32) (ix2 i o)
      = ∑ k : Fin 128, L (ix2 i ⟨k.val, by omega⟩) * R (ix2 k o)
        + (∑ k : Fin 128, L (ix2 i ⟨128 + k.val, by omega⟩) * R (ix2 k o) + ∑ k : Fin 128, L (ix2 i ⟨256 + k.val, by omega⟩) * R (ix2 k o)) := by
  refine (Ideal.matmul_plain_apply (M := 128) (K := 384) (N := 512) none L _ _ i o).trans ?_
  rw [constant_apply, Ideal.ofBits_zero_f32, zero_add, sum384]
  refine congrArg₂ (· + ·) ?_ (congrArg₂ (· + ·) ?_ ?_)
  · exact Finset.sum_congr rfl fun k _ => congrArg _ (stack_apply R 0 k o _ (by show k.val = 128 * 0 + k.val; omega))
  · exact Finset.sum_congr rfl fun k _ => congrArg _ (stack_apply R 1 k o _ (by show 128 + k.val = 128 * 1 + k.val; omega))
  · exact Finset.sum_congr rfl fun k _ => congrArg _ (stack_apply R 2 k o _ (by show 256 + k.val = 128 * 2 + k.val; omega))

/-- A row of a block of products with the Gram matrix: the limbs beyond the first vanish, every entry being finite. -/
theorem limb_apply (n : Fin 20) (g : FVec Ideal S128x128 .f32) (gR : Fin 128 → Fin 128 → ℝ) (hg : ∀ i k, g (ix2 i k) = (gR i k : EReal))
    (i k : Fin 128) (p : Fin 3) (j : Fin 384) (hj : j.val = 128 * p.val + k.val) :
    shapeCast S128x384 (limbP (F := Ideal) (Scalar.ofBits .f32 (ratioBits n)) g) shapeCasts_S1x1x128x384_S128x384 (ix2 i j)
      = ((if p = 0 then gR i k * rat n.val else 0 : ℝ) : EReal) := by
  rw [shapeCast_apply _ shapeCasts_S1x1x128x384_S128x384 (ix2 i j) (ix4 0 0 i j) (by
    rw [Shape.rowMajor_val_two, Shape.rowMajor_val_four]; show ((0 * 1 + 0) * 128 + i.val) * 384 + j.val = i.val * 384 + j.val; omega)]
  unfold limbP
  rw [shapeCast_apply _ shapeCasts_S128x384_S1x1x128x384 (ix4 0 0 i j) (ix2 i j) (by
    rw [Shape.rowMajor_val_two, Shape.rowMajor_val_four]; show i.val * 384 + j.val = ((0 * 1 + 0) * 128 + i.val) * 384 + j.val; omega)]
  have hb : ∀ X : S1x128.Idx → EReal, broadcastTo S128x128 X broadcasts_S1x128_S128x128 (ix2 i k) = X (ix2 0 k) := fun X =>
    broadcastTo_apply X _ (ix2 i k) (ix2 0 k) fun a => by match a with | ⟨0, _⟩ => rfl | ⟨1, _⟩ => rfl
  have hm : (mulf g (broadcastTo S128x128 (extractStridedSlice S1x128 ![0, 0] (subf (broadcast S8x128 (Scalar.ofBits .f32 0x3F800000#32))
      (divf (broadcast S8x128 (Scalar.ofBits .f32 (ratioBits n))) (broadcast S8x128 (Scalar.ofBits .f32 0x42200000#32)))) slices_S8x128_o0_0_S1x128) broadcasts_S1x128_S128x128) : FVec Ideal S128x128 .f32) (ix2 i k)
      = ((gR i k * rat n.val : ℝ) : EReal) := by
    rw [mulf_apply, hb, hg, EReal.coe_mul]
    exact congrArg _ (ratio_coe n)
  generalize hM : (mulf g (broadcastTo S128x128 (extractStridedSlice S1x128 ![0, 0] (subf (broadcast S8x128 (Scalar.ofBits .f32 0x3F800000#32))
      (divf (broadcast S8x128 (Scalar.ofBits .f32 (ratioBits n))) (broadcast S8x128 (Scalar.ofBits .f32 0x42200000#32)))) slices_S8x128_o0_0_S1x128) broadcasts_S1x128_S128x128) : FVec Ideal S128x128 .f32) = M at hm ⊢
  have hs : (((gR i k * rat n.val : ℝ) : EReal) - ((gR i k * rat n.val : ℝ) : EReal)) = 0 := by rw [← EReal.coe_sub, sub_self, EReal.coe_zero]
  refine (beside_apply ![truncf .bf16 M bitsLt_bf16_f32, truncf .bf16 (subf M (extf .f32 (truncf .bf16 M bitsLt_bf16_f32) bitsLt_bf16_f32)) bitsLt_bf16_f32,
    truncf .bf16 (subf (subf M (extf .f32 (truncf .bf16 M bitsLt_bf16_f32) bitsLt_bf16_f32)) (extf .f32 (truncf .bf16 (subf M (extf .f32 (truncf .bf16 M bitsLt_bf16_f32) bitsLt_bf16_f32)) bitsLt_bf16_f32) bitsLt_bf16_f32)) bitsLt_bf16_f32] p i k j hj).trans ?_
  match p with
  | ⟨0, _⟩ => exact hm
  | ⟨1, _⟩ =>
    show M (ix2 i k) - M (ix2 i k) = ((0 : ℝ) : EReal)
    rw [hm, hs]; rfl
  | ⟨2, _⟩ =>
    show (M (ix2 i k) - M (ix2 i k)) - (M (ix2 i k) - M (ix2 i k)) = ((0 : ℝ) : EReal)
    rw [hm, hs]; simp

theorem coe_sum128 (f : Fin 128 → ℝ) : ∑ k, ((f k : ℝ) : EReal) = ((∑ k, f k : ℝ) : EReal) := by
  induction (Finset.univ : Finset (Fin 128)) using Finset.induction_on with
  | empty => simp
  | insert a s ha ih => rw [Finset.sum_insert ha, Finset.sum_insert ha, ih, EReal.coe_add]

/-- The product of the Gram matrix at ratio `n` with a finite block. -/
theorem mm_real (n : Fin 20) (g : FVec Ideal S128x128 .f32) (gR : Fin 128 → Fin 128 → ℝ) (hg : ∀ i k, g (ix2 i k) = (gR i k : EReal))
    (R : FVec Ideal S128x512 .bf16) (o : Fin 512) (r : Fin 128 → ℝ) (hr : ∀ k, R (ix2 k o) = (r k : EReal)) (i : Fin 128) :
    matmul dot_S128x384_S384x512_S128x512_1_0_0_1_n_n none (shapeCast S128x384 (limbP (F := Ideal) (Scalar.ofBits .f32 (ratioBits n)) g) shapeCasts_S1x1x128x384_S128x384)
        (concatenate S384x512 0 [⟨S128x512, R⟩, ⟨S128x512, R⟩, ⟨S128x512, R⟩] concatenates_S128x512_S128x512_S128x512_S384x512_d0)
        (constant S128x512 .f32 0x00000000#32) (ix2 i o)
      = ((∑ k, gR i k * rat n.val * r k : ℝ) : EReal) := by
  rw [mm384]
  have e0 : ∀ k : Fin 128, shapeCast S128x384 (limbP (F := Ideal) (Scalar.ofBits .f32 (ratioBits n)) g) shapeCasts_S1x1x128x384_S128x384 (ix2 i ⟨k.val, by omega⟩) * R (ix2 k o) = ((gR i k * rat n.val * r k : ℝ) : EReal) := by
    intro k
    rw [limb_apply n g gR hg i k 0 _ (by show k.val = 128 * 0 + k.val; omega), if_pos rfl, hr, ← EReal.coe_mul]
  have e1 : ∀ k : Fin 128, shapeCast S128x384 (limbP (F := Ideal) (Scalar.ofBits .f32 (ratioBits n)) g) shapeCasts_S1x1x128x384_S128x384 (ix2 i ⟨128 + k.val, by omega⟩) * R (ix2 k o) = 0 := by
    intro k
    rw [limb_apply n g gR hg i k 1 _ (by show 128 + k.val = 128 * 1 + k.val; omega), if_neg (by decide), EReal.coe_zero, zero_mul]
  have e2 : ∀ k : Fin 128, shapeCast S128x384 (limbP (F := Ideal) (Scalar.ofBits .f32 (ratioBits n)) g) shapeCasts_S1x1x128x384_S128x384 (ix2 i ⟨256 + k.val, by omega⟩) * R (ix2 k o) = 0 := by
    intro k
    rw [limb_apply n g gR hg i k 2 _ (by show 256 + k.val = 128 * 2 + k.val; omega), if_neg (by decide), EReal.coe_zero, zero_mul]
  simp only [e0, e1, e2, Finset.sum_const_zero, add_zero]
  exact coe_sum128 _

/-- The Gram matrix of a group of activations. -/
theorem gram_apply (X : Vec Ideal S512x128 .fp8e4m3) (s : Vec Ideal S1x512 .f32) (xr : Fin 512 → Fin 128 → ℝ)
    (hx : ∀ t i, X (ix2 t i) * s (ix2 0 t) = (xr t i : EReal)) (i j : Fin 128) :
    k0_pay2 (F := Ideal) X s (ix2 i j) = ((∑ t, xr t i * xr t j : ℝ) : EReal) := by
  have hv : ∀ (i : Fin 128) (t : Fin 512), (mulf (transpose S128x512 [1, 0] (extf .bf16 (shapeCast S512x128 X shapeCasts_S512x128_S512x128) bitsLt_fp8e4m3_bf16) transposes_S512x128_p1_0_S128x512)
      (broadcastTo S128x512 (truncf .bf16 s bitsLt_bf16_f32) broadcasts_S1x512_S128x512) : FVec Ideal S128x512 .bf16) (ix2 i t) = (xr t i : EReal) := by
    intro i t
    rw [mulf_apply, bcast_row128, transpose_apply [1, 0] _ transposes_S512x128_p1_0_S128x512 (ix2 i t) (ix2 t i) (fun b => by match b with | ⟨0, _⟩ => rfl | ⟨1, _⟩ => rfl), shapeCast_self]
    exact hx t i
  unfold k0_pay2
  refine (Ideal.matmul_transposedRhs_apply (M := 128) (K := 512) (N := 128) none _ _ _ i j).trans ?_
  rw [constant_apply, Ideal.ofBits_zero_f32, zero_add]
  simp only [hv]
  have : ∀ f : Fin 512 → ℝ, ∑ k, ((f k : ℝ) : EReal) = ((∑ k, f k : ℝ) : EReal) := by
    intro f
    induction (Finset.univ : Finset (Fin 512)) using Finset.induction_on with
    | empty => simp
    | insert a s ha ih => rw [Finset.sum_insert ha, Finset.sum_insert ha, ih, EReal.coe_add]
  rw [← this]
  exact Finset.sum_congr rfl fun t _ => (EReal.coe_mul _ _).symm

theorem sum16 {M : Type} [AddCommMonoid M] (f : Fin 16 → M) :
    ((((f 0 + f 4) + f 8) + f 12) + (((f 1 + f 5) + f 9) + f 13)) + ((((f 2 + f 6) + f 10) + f 14) + (((f 3 + f 7) + f 11) + f 15)) = ∑ j, f j := by
  have h := Fin.sum_univ_add (a := 8) (b := 8) f
  rw [Fin.sum_univ_eight, Fin.sum_univ_eight] at h
  refine Eq.trans ?_ h.symm
  show _ = (f 0 + f 1 + f 2 + f 3 + f 4 + f 5 + f 6 + f 7) + (f 8 + f 9 + f 10 + f 11 + f 12 + f 13 + f 14 + f 15)
  abel

theorem slice8 (P : FVec Ideal S128x512 .f32) (off : ℕ) (h : S128x512.Slices ![off, 0] S8x512) (s : Fin 8) (o : Fin 512) (hb : off + s.val < 128) :
    extractStridedSlice S8x512 ![off, 0] P h (ix2 s o) = P (ix2 ⟨off + s.val, hb⟩ o) :=
  extractStridedSlice_apply _ _ h (ix2 s o) (ix2 ⟨off + s.val, hb⟩ o) fun a => by
    match a with
    | ⟨0, _⟩ => rfl
    | ⟨1, _⟩ => show o.val = 0 + o.val; omega

theorem partP_apply (P : FVec Ideal S128x512 .f32) (s : Fin 8) (o : Fin 512) :
    partP P (ix2 s o) = ∑ j : Fin 16, P (ix2 ⟨8 * j.val + s.val, by omega⟩ o) := by
  rw [← sum16]
  unfold partP k0_pay92
  simp only [addf_apply]
  rw [slice8 P 0 _ s o (by omega), slice8 P 8 _ s o (by omega), slice8 P 16 _ s o (by omega), slice8 P 24 _ s o (by omega),
    slice8 P 32 _ s o (by omega), slice8 P 40 _ s o (by omega), slice8 P 48 _ s o (by omega), slice8 P 56 _ s o (by omega),
    slice8 P 64 _ s o (by omega), slice8 P 72 _ s o (by omega), slice8 P 80 _ s o (by omega), slice8 P 88 _ s o (by omega),
    slice8 P 96 _ s o (by omega), slice8 P 104 _ s o (by omega), slice8 P 112 _ s o (by omega), slice8 P 120 _ s o (by omega)]
  rfl

theorem sum128 (f : Fin 128 → EReal) : ∑ i, f i = ∑ s : Fin 8, ∑ j : Fin 16, f ⟨8 * j.val + s.val, by omega⟩ := by
  rw [Finset.sum_comm, ← Fintype.sum_prod_type', ← Equiv.sum_comp (finProdFinEquiv (m := 16) (n := 8))]
  refine Finset.sum_congr rfl fun p _ => congrArg f (Fin.ext ?_)
  show p.2.val + 8 * p.1.val = 8 * p.1.val + p.2.val
  omega

theorem total_apply (P : FVec Ideal S128x512 .f32) (o : Fin 512) :
    ((partP P (ix2 0 o) + partP P (ix2 1 o)) + (partP P (ix2 2 o) + partP P (ix2 3 o))) + ((partP P (ix2 4 o) + partP P (ix2 5 o)) + (partP P (ix2 6 o) + partP P (ix2 7 o)))
      = ∑ i : Fin 128, P (ix2 i o) := by
  rw [sum128 (fun i => P (ix2 i o)), Fin.sum_univ_eight]
  simp only [partP_apply]
  abel

/-- The loss of a finite group, over the reals. -/
theorem lossE_real (W : Vec Ideal S512x128 .bf16) (g : FVec Ideal S128x128 .f32) (gR : Fin 128 → Fin 128 → ℝ) (hg : ∀ i k, g (ix2 i k) = (gR i k : EReal))
    (hsym : ∀ i j, gR i j = gR j i) (n : Fin 20) (o : Fin 512) (w : Fin 128 → ℝ) (hw : ∀ k, wRow W o k = (w k : EReal))
    (a : ℝ) (ha : mag (wRow W o) = (a : EReal)) (ha0 : 0 ≤ a) (haz : a = 0 → ∀ k, w k = 0) (z : Fin 128 → ℝ) (hz : ∀ k, clq (tE W n o k) = (z k : EReal)) :
    lossE W (limbP (Scalar.ofBits .f32 (ratioBits 0)) g) (limbP (Scalar.ofBits .f32 (ratioBits n)) g) n o
      = ((∑ i, (∑ j, gR j i * (w j - z j * sclR (rat n.val) a)) * (w i - z i * sclR (rat n.val) a) : ℝ) : EReal) := by
  have r0 : rat (0 : Fin 20).val = 1 := by simp [rat]
  have hinv : ∀ n : Fin 20, invE W n o = ((1 / sclR (rat n.val) a : ℝ) : EReal) := by
    intro n
    unfold invE
    rw [ha, scl_coe, Ideal.div_coe (sclR_pos (rat_pos n) ha0).ne', one_mul]
  have hP : ∀ i : Fin 128, prodP W (limbP (Scalar.ofBits .f32 (ratioBits 0)) g) (limbP (Scalar.ofBits .f32 (ratioBits n)) g) n (ix2 i o)
      = (((w i * (1 / sclR (rat n.val) a) - z i) * ((∑ j, gR i j * 1 * w j) * (1 / sclR 1 a) - ∑ j, gR i j * rat n.val * z j) : ℝ) : EReal) := by
    intro i
    unfold prodP k0_pay83 k0_pay79
    simp only [mulf_apply, subf_apply]
    rw [pay80_apply, pay81_apply, bcast_row128, rowP_apply, hinv, hz,
      mm_real 0 g gR hg (k0_pay74 W) o w (fun k => (pay74_apply W k o).trans (hw k)) i,
      mm_real n g gR hg (truncf .bf16 (k0_pay81 (k0_pay75 W) (rowP W n)) bitsLt_bf16_f32) o z (fun k => (pay81_apply W n k o).trans (hz k)) i]
    unfold tE
    rw [hinv, hw, r0, ← EReal.coe_mul, ← EReal.coe_sub, ← EReal.coe_mul, ← EReal.coe_sub, ← EReal.coe_mul]
  unfold lossE
  dsimp only
  rw [scaleE_ratio, scaleE_ratio, amaxE_eq, ha, scl_coe, scl_coe]
  refine Eq.trans (congrArg (fun t : EReal => t * _ * _) (total_apply _ o)) ?_
  simp only [hP]
  rw [coe_sum128, ← EReal.coe_mul, ← EReal.coe_mul, r0]
  refine congrArg _ (loss_real gR hsym w z a (rat n.val) (rat_pos n) ha0 haz ?_)
  intro h k
  have h1 : tE W n o k = 0 := by unfold tE; rw [hw, haz h, EReal.coe_zero, zero_mul]
  have h2 := hz k
  rw [h1, clq_zero] at h2
  exact_mod_cast h2.symm

end Cert.KernelIdeal.Val

end
-- ==== Proof.ReferenceIdealElem.lean ====
module

public import proofs.«01_k».proof.Proof.Gen.ReferenceIdeal.Run
public import proofs.«01_k».proof.Proof.Scalar
public import Idealize.ShloMosaic.Lib.Pipeline.ValueKit.Geometry

@[expose] public section

set_option maxRecDepth 16384

noncomputable section

namespace Cert.ReferenceIdeal.Elem

open Cert.ReferenceIdeal Cert.ReferenceIdeal.Gen Cert.ReferenceIdeal.Value Cert.Awq
open Idealize.ShloMosaic Idealize.ShloMosaic.TcCoe
open Idealize.ShloMosaic.ValueIdx

/-! # The reference's values at an element, over the extended reals -/

/-- The reference's steps, named. -/
def gw (a2 : FVec Ideal S4096x11008 .bf16) : FVec Ideal S4096x86x128 .f32 := extf .f32 (shapeCast S4096x86x128 a2 shapeCasts_S4096x11008_S4096x86x128) bitsLt_bf16_f32

def amax (a2 : FVec Ideal S4096x11008 .bf16) : FVec Ideal S4096x86x1 .f32 :=
  broadcastInDim S4096x86x1 ![0, 1] bcast_S4096x86_S4096x86x1_0_1 (Host.reduce FloatOps.maximumf (Host.absf (gw a2)) (constant S_ .f32 0xFF800000#32) reducesTo_S4096x86x128_S4096x86_d2 h_S_)

def ratios : FVec Ideal S20 .f32 :=
  subf (broadcastInDim S20 ![] bcast_S_S20 (constant S_ .f32 0x3F800000#32)) (Host.divf (sitofp .f32 (iotaInDim S20 32 0)) (broadcastInDim S20 ![] bcast_S_S20 (constant S_ .f32 0x42200000#32)))

def scale (a2 : FVec Ideal S4096x11008 .bf16) : FVec Ideal S4096x86x20 .f32 :=
  select (broadcastInDim S4096x86x20 ![0, 1, 2] bcast_S4096x86x1_S4096x86x20_0_1_2 (cmpf .oeq (amax a2) (broadcastInDim S4096x86x1 ![] bcast_S_S4096x86x1 (constant S_ .f32 0x00000000#32))))
    (broadcastInDim S4096x86x20 ![] bcast_S_S4096x86x20 (constant S_ .f32 0x3F800000#32))
    (Host.divf (mulf (broadcastInDim S4096x86x20 ![0, 1, 2] bcast_S1x1x20_S4096x86x20_0_1_2 (broadcastInDim S1x1x20 ![2] bcast_S20_S1x1x20_2 ratios))
      (broadcastInDim S4096x86x20 ![0, 1, 2] bcast_S4096x86x1_S4096x86x20_0_1_2 (amax a2))) (broadcastInDim S4096x86x20 ![] bcast_S_S4096x86x20 (constant S_ .f32 0x40E00000#32)))

def wide (a2 : FVec Ideal S4096x11008 .bf16) : FVec Ideal S4096x86x20x128 .f32 :=
  broadcastInDim S4096x86x20x128 ![0, 1, 2, 3] bcast_S4096x86x1x128_S4096x86x20x128_0_1_2_3 (broadcastInDim S4096x86x1x128 ![0, 1, 3] bcast_S4096x86x128_S4096x86x1x128_0_1_3 (gw a2))

def wscale (a2 : FVec Ideal S4096x11008 .bf16) : FVec Ideal S4096x86x20x128 .f32 :=
  broadcastInDim S4096x86x20x128 ![0, 1, 2, 3] bcast_S4096x86x20x1_S4096x86x20x128_0_1_2_3 (broadcastInDim S4096x86x20x1 ![0, 1, 2] bcast_S4096x86x20_S4096x86x20x1_0_1_2 (scale a2))

def quant (a2 : FVec Ideal S4096x11008 .bf16) : IVec S4096x86x20x128 32 :=
  fptosi 32 (minimumf (broadcastInDim S4096x86x20x128 ![] bcast_S_S4096x86x20x128 (sitofp .f32 (constantI S_ 32 7#32))) (maximumf (broadcastInDim S4096x86x20x128 ![] bcast_S_S4096x86x20x128 (sitofp .f32 (constantI S_ 32 4294967289#32))) (Host.roundeven (Host.divf (wide a2) (wscale a2)))))

def errs (a2 : FVec Ideal S4096x11008 .bf16) : FVec Ideal S4096x86x20x128 .f32 := subf (wide a2) (mulf (sitofp .f32 (quant a2)) (wscale a2))

def smooth (a0 : FVec Ideal S1x512x11008 .f32) (a1 : FVec Ideal S1x512 .f32) : FVec Ideal S512x86x128 .bf16 :=
  shapeCast S512x86x128 (mulf (truncf .bf16 a0 bitsLt_bf16_f32) (broadcastInDim S1x512x11008 ![0, 1, 2] bcast_S1x512x1_S1x512x11008_0_1_2 (broadcastInDim S1x512x1 ![0, 1] bcast_S1x512_S1x512x1_0_1 (truncf .bf16 a1 bitsLt_bf16_f32)))) shapeCasts_S1x512x11008_S512x86x128

def gram (a0 : FVec Ideal S1x512x11008 .f32) (a1 : FVec Ideal S1x512 .f32) : FVec Ideal S86x128x128 .f32 :=
  Host.dotGeneral dot_S512x86x128_S512x86x128_S86x128x128_0_0_2_2_1_1 none (smooth a0 a1) (smooth a0 a1)

def loss (a0 : FVec Ideal S1x512x11008 .f32) (a1 : FVec Ideal S1x512 .f32) (a2 : FVec Ideal S4096x11008 .bf16) : FVec Ideal S4096x86x20 .f32 :=
  Host.reduceAdd (mulf (transpose S4096x86x20x128 [2, 0, 3, 1] (Host.dotGeneral dot_S86x128x128_S4096x86x20x128_S86x128x4096x20_1_3_2_02_0_1 (some .fp32) (gram a0 a1) (errs a2)) transposes_S86x128x4096x20_S4096x86x20x128_2_0_3_1) (errs a2))
    (constant S_ .f32 0x00000000#32) reducesTo_S4096x86x20x128_S4096x86x20_d3 h_S_

def codes (a2 : FVec Ideal S4096x11008 .bf16) : IVec S4096x86x20x64 8 :=
  trunci 8 (ori (Host.slice S4096x86x20x64 ![0, 0, 0, 0] ![1, 1, 1, 2] (andi (quant a2) (broadcastInDim S4096x86x20x128 ![] bcast_S_S4096x86x20x128 (constantI S_ 32 15#32))) slicesBy_S4096x86x20x128_S4096x86x20x64_0s1_0s1_0s1_0s2)
    (Host.shli (Host.slice S4096x86x20x64 ![0, 0, 0, 1] ![1, 1, 1, 2] (andi (quant a2) (broadcastInDim S4096x86x20x128 ![] bcast_S_S4096x86x20x128 (constantI S_ 32 15#32))) slicesBy_S4096x86x20x128_S4096x86x20x64_0s1_0s1_0s1_1s2)
      (broadcastInDim S4096x86x20x64 ![] bcast_S_S4096x86x20x64 (constantI S_ 32 4#32)))) natLt_8_32

variable (m : (ℓ : Loc nD τ sig) → Buf (Elt Ideal) ℓ) (c : Dev nD)

theorem res44 : res_main_v44 m c = loss (m ((c.tc : Thread nD τ).loc main_arg0)) (m ((c.tc : Thread nD τ).loc main_arg1)) (m ((c.tc : Thread nD τ).loc main_arg2)) := by
  unfold res_main_v44; rfl

theorem res52 : res_main_v52 m c = codes (m ((c.tc : Thread nD τ).loc main_arg2)) := by
  unfold res_main_v52; rfl

/-! ## At an index -/

/-- The weights of output channel `O` in group `G`. -/
def row (a2 : FVec Ideal S4096x11008 .bf16) (O : Fin 4096) (G : Fin 86) : Fin 128 → EReal := fun k =>
  a2 (ix2 O ⟨128 * G.val + k.val, by have := G.isLt; have := k.isLt; omega⟩)

variable (a0 : FVec Ideal S1x512x11008 .f32) (a1 : FVec Ideal S1x512 .f32) (a2 : FVec Ideal S4096x11008 .bf16)

theorem gw_apply (O : Fin 4096) (G : Fin 86) (k : Fin 128) : gw a2 (ix3 O G k) = row a2 O G k :=
  shapeCast_apply a2 shapeCasts_S4096x11008_S4096x86x128 (ix3 O G k) (ix2 O ⟨128 * G.val + k.val, by have := G.isLt; have := k.isLt; omega⟩) (by
    rw [Shape.rowMajor_val_two, Shape.rowMajor_val_three]
    show O.val * 11008 + (128 * G.val + k.val) = (O.val * 86 + G.val) * 128 + k.val
    omega)

theorem amax_apply (O : Fin 4096) (G : Fin 86) : amax a2 (ix3 O G 0) = mag (row a2 O G) := by
  unfold amax
  rw [broadcastInDim_apply ![0, 1] bcast_S4096x86_S4096x86x1_0_1 _ (ix3 O G 0) (ix2 O G) (fun a => by match a with | ⟨0, _⟩ => rfl | ⟨1, _⟩ => rfl)]
  have hr : S4096x86x128.Reduces [2] S4096x86 := by decide
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  rw [Host.reduce_eq_fold_single _ _ _ _ hr]
  unfold mag
  refine Eq.trans ?_ (congrArg (fun b : EReal => (Finset.univ : Finset (Fin 128)).fold max b _) ofBits_bot)
  refine congrArg (fun f => (Finset.univ : Finset (Fin 128)).fold max (Ideal.ofBits .f32 0xFF800000#32) f) ?_
  funext k
  have e : hr.lift (ix2 O G) k = (ix3 O G k : S4096x86x128.Idx) := by
    funext a; apply Fin.ext
    match a with
    | ⟨0, _⟩ => rfl
    | ⟨1, _⟩ => rfl
    | ⟨2, _⟩ => rfl
  show max (gw a2 (hr.lift (ix2 O G) k)) (-(gw a2 (hr.lift (ix2 O G) k))) = _
  rw [e]
  exact congrArg (fun x : EReal => max x (-x)) (gw_apply a2 O G k)

theorem ratios_apply (n : Fin 20) : ratios (ix1 n) = (rat n.val : EReal) := by
  unfold ratios
  have ht : (BitVec.ofNat 32 n.val).toInt = (n.val : ℤ) := by
    have h := n.isLt
    have e : (BitVec.ofNat 32 n.val).toNat = n.val := by rw [BitVec.toNat_ofNat]; exact Nat.mod_eq_of_lt (by omega)
    rw [BitVec.toInt_eq_toNat_of_lt (by rw [e]; omega), e]
  show Ideal.ofBits .f32 0x3F800000#32 - Ideal.div (((BitVec.ofNat 32 n.val).toInt : ℝ) : EReal) (Ideal.ofBits .f32 0x42200000#32) = _
  rw [Ideal.ofBits_one_f32, ofBits_forty, ht]
  exact one_sub_div _

/-- The scale of a group at a ratio. -/
def sE (O : Fin 4096) (G : Fin 86) (n : Fin 20) : EReal := scl (rat n.val : EReal) (mag (row a2 O G))

theorem scale_apply (O : Fin 4096) (G : Fin 86) (n : Fin 20) : scale a2 (ix3 O G n) = sE a2 O G n := by
  unfold scale
  have hb : ∀ {α : Type} (X : S4096x86x1.Idx → α), broadcastInDim S4096x86x20 ![0, 1, 2] bcast_S4096x86x1_S4096x86x20_0_1_2 X (ix3 O G n) = X (ix3 O G 0) := fun X =>
    broadcastInDim_apply _ _ X (ix3 O G n) (ix3 O G 0) fun a => by match a with | ⟨0, _⟩ => rfl | ⟨1, _⟩ => rfl | ⟨2, _⟩ => rfl
  have hr : broadcastInDim S4096x86x20 ![0, 1, 2] bcast_S1x1x20_S4096x86x20_0_1_2 (broadcastInDim S1x1x20 ![2] bcast_S20_S1x1x20_2 ratios) (ix3 O G n) = ratios (ix1 n) :=
    (broadcastInDim_apply _ _ _ (ix3 O G n) (ix3 0 0 n : S1x1x20.Idx) (fun a => by match a with | ⟨0, _⟩ => rfl | ⟨1, _⟩ => rfl | ⟨2, _⟩ => rfl)).trans
      (broadcastInDim_apply _ _ _ (ix3 0 0 n : S1x1x20.Idx) (ix1 n) (fun a => by match a with | ⟨0, _⟩ => rfl))
  rw [select_apply, hb, hostDivf_apply, mulf_apply, hb, hr, ratios_apply, amax_apply, cmpf_apply, amax_apply]
  show Scalar.select (Ideal.cmp .oeq _ (Ideal.ofBits .f32 0x00000000#32)) (Ideal.ofBits .f32 0x3F800000#32) (Ideal.div _ (Ideal.ofBits .f32 0x40E00000#32)) = _
  rw [Ideal.ofBits_one_f32, Ideal.ofBits_zero_f32, ofBits_seven]
  rfl

theorem wide_apply (O : Fin 4096) (G : Fin 86) (n : Fin 20) (k : Fin 128) : wide a2 (ix4 O G n k) = row a2 O G k :=
  ((broadcastInDim_apply _ _ _ (ix4 O G n k) (ix4 O G 0 k : S4096x86x1x128.Idx) (fun a => by match a with | ⟨0, _⟩ => rfl | ⟨1, _⟩ => rfl | ⟨2, _⟩ => rfl | ⟨3, _⟩ => rfl)).trans
    (broadcastInDim_apply _ _ _ (ix4 O G 0 k : S4096x86x1x128.Idx) (ix3 O G k) (fun a => by match a with | ⟨0, _⟩ => rfl | ⟨1, _⟩ => rfl | ⟨2, _⟩ => rfl))).trans (gw_apply a2 O G k)

theorem wscale_apply (O : Fin 4096) (G : Fin 86) (n : Fin 20) (k : Fin 128) : wscale a2 (ix4 O G n k) = sE a2 O G n :=
  ((broadcastInDim_apply _ _ _ (ix4 O G n k) (ix4 O G n 0 : S4096x86x20x1.Idx) (fun a => by match a with | ⟨0, _⟩ => rfl | ⟨1, _⟩ => rfl | ⟨2, _⟩ => rfl | ⟨3, _⟩ => rfl)).trans
    (broadcastInDim_apply _ _ _ (ix4 O G n 0 : S4096x86x20x1.Idx) (ix3 O G n) (fun a => by match a with | ⟨0, _⟩ => rfl | ⟨1, _⟩ => rfl | ⟨2, _⟩ => rfl))).trans (scale_apply a2 O G n)

/-- A weight in units of its scale. -/
def tE (O : Fin 4096) (G : Fin 86) (n : Fin 20) (k : Fin 128) : EReal := Ideal.div (row a2 O G k) (sE a2 O G n)

theorem toInt_seven : (7#32 : BitVec 32).toInt = 7 := by simp
theorem toInt_neg : (4294967289#32 : BitVec 32).toInt = -7 := by simp

theorem splat_apply (w : BitVec 32) (z : ℤ) (h : w.toInt = z) (j : S4096x86x20x128.Idx) :
    broadcastInDim S4096x86x20x128 ![] bcast_S_S4096x86x20x128 (sitofp (F := Ideal) .f32 (constantI S_ 32 w)) j = ((z : ℝ) : EReal) := by
  subst h
  rw [broadcastInDim_scalar_apply]
  rfl

theorem clamp_apply (A B D : FVec Ideal S4096x86x20x128 .f32) (j : S4096x86x20x128.Idx) :
    fptosi 32 (minimumf A (maximumf B (Host.roundeven D))) j = Ideal.fptosi 32 (min (A j : EReal) (max (B j : EReal) (Ideal.liftRound Ideal.roundHalfEven (D j)))) := rfl

theorem quant_apply (O : Fin 4096) (G : Fin 86) (n : Fin 20) (k : Fin 128) : quant a2 (ix4 O G n k) = Ideal.fptosi 32 (clq (tE a2 O G n k)) := by
  unfold quant
  have hd : Host.divf (wide a2) (wscale a2) (ix4 O G n k) = tE a2 O G n k := by
    rw [hostDivf_apply, wide_apply, wscale_apply]; rfl
  generalize Host.divf (wide a2) (wscale a2) = D at hd
  have e7 := splat_apply 7#32 7 toInt_seven (ix4 O G n k)
  have em := splat_apply 4294967289#32 (-7) toInt_neg (ix4 O G n k)
  generalize broadcastInDim S4096x86x20x128 ![] bcast_S_S4096x86x20x128 (sitofp (F := Ideal) .f32 (constantI S_ 32 7#32)) = A at e7
  generalize broadcastInDim S4096x86x20x128 ![] bcast_S_S4096x86x20x128 (sitofp (F := Ideal) .f32 (constantI S_ 32 4294967289#32)) = B at em
  rw [clamp_apply, e7, em, hd]
  unfold clq
  norm_cast

theorem codes_apply (O : Fin 4096) (G : Fin 86) (n : Fin 20) (r : Fin 64) :
    codes a2 (ix4 O G n r) = pack (Ideal.fptosi 32 (clq (tE a2 O G n ⟨2 * r.val, by omega⟩))) (Ideal.fptosi 32 (clq (tE a2 O G n ⟨2 * r.val + 1, by omega⟩))) := by
  have hs : ∀ (b : Fin 2) (off : Fin 4 → ℕ) (hoff : off = ![0, 0, 0, b.val]) (X : S4096x86x20x128.Idx → BitVec 32) (h : S4096x86x20x128.SlicesBy off ![1, 1, 1, 2] S4096x86x20x64),
      Host.slice S4096x86x20x64 off ![1, 1, 1, 2] X h (ix4 O G n r) = X (ix4 O G n ⟨2 * r.val + b.val, by omega⟩) := by
    intro b off hoff X h
    subst hoff
    unfold Host.slice
    refine congrArg X ?_
    funext a; apply Fin.ext
    match a with
    | ⟨0, _⟩ => show 0 + 1 * O.val = O.val; omega
    | ⟨1, _⟩ => show 0 + 1 * G.val = G.val; omega
    | ⟨2, _⟩ => show 0 + 1 * n.val = n.val; omega
    | ⟨3, _⟩ => show b.val + 2 * r.val = 2 * r.val + b.val; omega
  have hsh : ∀ x : BitVec 32, IntOp.shli .host x 4#32 = x <<< 4 := by
    intro x
    unfold IntOp.shli
    rw [if_pos (by decide)]
    rfl
  unfold codes pack
  rw [← quant_apply, ← quant_apply, ← hsh]
  have e15 : ∀ j, broadcastInDim S4096x86x20x128 ![] bcast_S_S4096x86x20x128 (constantI S_ 32 15#32) j = 15#32 := fun j => by
    rw [broadcastInDim_scalar_apply]; rfl
  have e4 : broadcastInDim S4096x86x20x64 ![] bcast_S_S4096x86x20x64 (constantI S_ 32 4#32) (ix4 O G n r) = 4#32 := by
    rw [broadcastInDim_scalar_apply]; rfl
  generalize broadcastInDim S4096x86x20x128 ![] bcast_S_S4096x86x20x128 (constantI S_ 32 15#32) = A at e15
  generalize broadcastInDim S4096x86x20x64 ![] bcast_S_S4096x86x20x64 (constantI S_ 32 4#32) = B at e4
  generalize quant a2 = Q
  have ha : ∀ j, andi Q A j = Q j &&& 15#32 := fun j => by rw [← e15 j]; rfl
  generalize andi Q A = Q' at ha
  have h0 := (hs 0 ![0, 0, 0, 0] rfl Q' slicesBy_S4096x86x20x128_S4096x86x20x64_0s1_0s1_0s1_0s2).trans (ha _)
  have h1 := (hs 1 ![0, 0, 0, 1] rfl Q' slicesBy_S4096x86x20x128_S4096x86x20x64_0s1_0s1_0s1_1s2).trans (ha _)
  generalize Host.slice S4096x86x20x64 ![0, 0, 0, 0] ![1, 1, 1, 2] Q' slicesBy_S4096x86x20x128_S4096x86x20x64_0s1_0s1_0s1_0s2 = Lo at h0
  generalize Host.slice S4096x86x20x64 ![0, 0, 0, 1] ![1, 1, 1, 2] Q' slicesBy_S4096x86x20x128_S4096x86x20x64_0s1_0s1_0s1_1s2 = Hi at h1
  have h : trunci 8 (ori Lo (Host.shli Hi B)) natLt_8_32 (ix4 O G n r) = (Lo (ix4 O G n r) ||| IntOp.shli .host (Hi (ix4 O G n r)) (B (ix4 O G n r))).setWidth 8 := rfl
  rw [h, h0, h1, e4]
  rfl

/-- What the rounding leaves of a weight. -/
def eE (O : Fin 4096) (G : Fin 86) (n : Fin 20) (k : Fin 128) : EReal := row a2 O G k - clq (tE a2 O G n k) * sE a2 O G n

theorem errs_apply (O : Fin 4096) (G : Fin 86) (n : Fin 20) (k : Fin 128) : errs a2 (ix4 O G n k) = eE a2 O G n k := by
  unfold errs
  rw [subf_apply, mulf_apply, wide_apply, wscale_apply, sitofp_apply, quant_apply]
  show _ - (((Ideal.fptosi 32 (clq (tE a2 O G n k))).toInt : ℝ) : EReal) * _ = _
  rw [sitofp_fptosi]
  rfl

/-- The smoothed activations of group `G`. -/
def xE (G : Fin 86) (t : Fin 512) (k : Fin 128) : EReal :=
  a0 (ix3 0 t ⟨128 * G.val + k.val, by have := G.isLt; have := k.isLt; omega⟩) * a1 (ix2 0 t)

theorem smooth_apply (G : Fin 86) (t : Fin 512) (k : Fin 128) : smooth a0 a1 (ix3 t G k) = xE a0 a1 G t k := by
  unfold smooth
  rw [shapeCast_apply _ shapeCasts_S1x512x11008_S512x86x128 (ix3 t G k) (ix3 0 t ⟨128 * G.val + k.val, by have := G.isLt; have := k.isLt; omega⟩) (by
    rw [Shape.rowMajor_val_three, Shape.rowMajor_val_three]
    show (0 * 512 + t.val) * 11008 + (128 * G.val + k.val) = (t.val * 86 + G.val) * 128 + k.val
    omega)]
  rw [mulf_apply]
  refine congrArg₂ (fun x y : EReal => x * y) rfl ?_
  exact (broadcastInDim_apply _ _ _ _ (ix3 0 t 0 : S1x512x1.Idx) (fun a => by match a with | ⟨0, _⟩ => rfl | ⟨1, _⟩ => rfl | ⟨2, _⟩ => rfl)).trans
    (broadcastInDim_apply _ _ _ (ix3 0 t 0 : S1x512x1.Idx) (ix2 0 t) (fun a => by match a with | ⟨0, _⟩ => rfl | ⟨1, _⟩ => rfl))

theorem gram_apply (G : Fin 86) (i j : Fin 128) : gram a0 a1 (ix3 G i j) = ∑ t : Fin 512, xE a0 a1 G t i * xE a0 a1 G t j := by
  unfold gram Host.dotGeneral
  rw [Ideal.dotGeneral_apply, ← Equiv.sum_comp (contrEquiv1 dot_S512x86x128_S512x86x128_S86x128x128_0_0_2_2_1_1 512 rfl rfl).symm]
  refine Finset.sum_congr rfl fun t _ => ?_
  have ht := contrEquiv1_symm_val dot_S512x86x128_S512x86x128_S86x128x128_0_0_2_2_1_1 512 rfl rfl t
  have el : dot_S512x86x128_S512x86x128_S86x128x128_0_0_2_2_1_1.lhsIdx (ix3 G i j) ((contrEquiv1 dot_S512x86x128_S512x86x128_S86x128x128_0_0_2_2_1_1 512 rfl rfl).symm t) = ix3 t G i := by
    funext a; apply Fin.ext
    match a with
    | ⟨0, _⟩ => exact ht
    | ⟨1, _⟩ => rfl
    | ⟨2, _⟩ => rfl
  have er : dot_S512x86x128_S512x86x128_S86x128x128_0_0_2_2_1_1.rhsIdx (ix3 G i j) ((contrEquiv1 dot_S512x86x128_S512x86x128_S86x128x128_0_0_2_2_1_1 512 rfl rfl).symm t) = ix3 t G j := by
    funext a; apply Fin.ext
    match a with
    | ⟨0, _⟩ => exact ht
    | ⟨1, _⟩ => rfl
    | ⟨2, _⟩ => rfl
  rw [el, er, smooth_apply, smooth_apply]

theorem loss_apply (O : Fin 4096) (G : Fin 86) (n : Fin 20) :
    loss a0 a1 a2 (ix3 O G n) = ∑ i : Fin 128, (∑ j : Fin 128, gram a0 a1 (ix3 G j i) * eE a2 O G n j) * eE a2 O G n i := by
  unfold loss
  have hr : S4096x86x20x128.Reduces [3] S4096x86x20 := by decide
  refine (Ideal.hostReduceAdd_single reducesTo_S4096x86x20x128_S4096x86x20_d3 hr _ _ (ix3 O G n)).trans ?_
  refine (congrArg (fun z : EReal => z + _) Ideal.ofBits_zero_f32).trans ((zero_add _).trans ?_)
  refine Finset.sum_congr rfl fun i _ => ?_
  have e : hr.lift (ix3 O G n) i = (ix4 O G n i : S4096x86x20x128.Idx) := by
    funext a; apply Fin.ext
    match a with
    | ⟨0, _⟩ => rfl
    | ⟨1, _⟩ => rfl
    | ⟨2, _⟩ => rfl
    | ⟨3, _⟩ => rfl
  rw [e, mulf_apply, transpose_apply [2, 0, 3, 1] _ transposes_S86x128x4096x20_S4096x86x20x128_2_0_3_1 (ix4 O G n i) (ix4 G i O n)
    (fun b => by match b with | ⟨0, _⟩ => rfl | ⟨1, _⟩ => rfl | ⟨2, _⟩ => rfl | ⟨3, _⟩ => rfl)]
  refine congrArg₂ (fun x y : EReal => x * y) ?_ (errs_apply a2 O G n i)
  unfold Host.dotGeneral
  rw [Ideal.dotGeneral_apply, ← Equiv.sum_comp (contrEquiv1 dot_S86x128x128_S4096x86x20x128_S86x128x4096x20_1_3_2_02_0_1 128 rfl rfl).symm]
  refine Finset.sum_congr rfl fun t _ => ?_
  have ht := contrEquiv1_symm_val dot_S86x128x128_S4096x86x20x128_S86x128x4096x20_1_3_2_02_0_1 128 rfl rfl t
  have el : dot_S86x128x128_S4096x86x20x128_S86x128x4096x20_1_3_2_02_0_1.lhsIdx (ix4 G i O n) ((contrEquiv1 dot_S86x128x128_S4096x86x20x128_S86x128x4096x20_1_3_2_02_0_1 128 rfl rfl).symm t) = ix3 G t i := by
    funext a; apply Fin.ext
    match a with
    | ⟨0, _⟩ => rfl
    | ⟨1, _⟩ => exact ht
    | ⟨2, _⟩ => rfl
  have er : dot_S86x128x128_S4096x86x20x128_S86x128x4096x20_1_3_2_02_0_1.rhsIdx (ix4 G i O n) ((contrEquiv1 dot_S86x128x128_S4096x86x20x128_S86x128x4096x20_1_3_2_02_0_1 128 rfl rfl).symm t) = ix4 O G n t := by
    funext a; apply Fin.ext
    match a with
    | ⟨0, _⟩ => rfl
    | ⟨1, _⟩ => rfl
    | ⟨2, _⟩ => rfl
    | ⟨3, _⟩ => exact ht
  exact congrArg₂ (fun x y : EReal => x * y) (congrArg (gram a0 a1) el) ((congrArg (errs a2) er).trans (errs_apply a2 O G n t))

end Cert.ReferenceIdeal.Elem

end
-- ==== Proof.Equal.lean ====
module

public import proofs.«01_k».proof.Proof.KernelIdealValue
public import proofs.«01_k».proof.Proof.KernelIdealLoss
public import proofs.«01_k».proof.Proof.ReferenceIdealElem

@[expose] public section

set_option maxRecDepth 16384

noncomputable section

namespace Cert.Equal

open Cert.Awq
open Idealize.ShloMosaic Idealize.ShloMosaic.TcCoe
open Idealize.ShloMosaic.ValueIdx
open Cert.KernelIdeal (S1x512x11008 S1x512 S4096x11008 S512x11008 S20x86x4096 S86x20x64x4096 S4096x86x20 S4096x86x20x64)
open Cert.KernelIdeal.Val (wRow wG xG limbG lossG codeG scaleG arrLoss arrCode arrScale blkOf posOf)
open Cert.ReferenceIdeal.Elem (row sE)

/-! # The kernel's values are the reference's -/

variable (a0 : FVec Ideal S1x512x11008 .f32) (a1 : FVec Ideal S1x512 .f32) (a2 : FVec Ideal S4096x11008 .bf16)

theorem row_eq (O : Fin 4096) (G : Fin 86) : wRow (wG a2 G (blkOf O)) (posOf O) = row a2 O G := by
  funext k
  refine congrArg a2 ?_
  funext a; apply Fin.ext
  match a with
  | ⟨0, _⟩ => show 512 * (O.val / 512) + O.val % 512 = O.val; omega
  | ⟨1, _⟩ => rfl

theorem scale_eq (O : Fin 4096) (G : Fin 86) (n : Fin 20) : scaleG (F := Ideal) a2 n G (blkOf O) (posOf O) = Cert.ReferenceIdeal.Elem.scale a2 (ix3 O G n) := by
  unfold scaleG
  rw [Cert.ReferenceIdeal.Elem.scale_apply, Cert.KernelIdeal.Val.scaleE_ratio, Cert.KernelIdeal.Val.amaxE_eq, row_eq]
  rfl

theorem tE_eq (O : Fin 4096) (G : Fin 86) (n : Fin 20) (k : Fin 128) :
    Cert.KernelIdeal.Val.tE (wG a2 G (blkOf O)) n (posOf O) k = Cert.ReferenceIdeal.Elem.tE a2 O G n k := by
  rw [Cert.KernelIdeal.Val.tE_eq, row_eq]
  rfl

theorem code_eq (O : Fin 4096) (G : Fin 86) (n : Fin 20) (r : Fin 64) :
    codeG (F := Ideal) a2 G n r (blkOf O) (posOf O) = Cert.ReferenceIdeal.Elem.codes a2 (ix4 O G n r) := by
  unfold codeG
  rw [Cert.ReferenceIdeal.Elem.codes_apply, Cert.KernelIdeal.Val.codeP_apply, tE_eq, tE_eq]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The loss, the arguments finite. -/
theorem loss_eq (x : S512x11008.Idx → Ideal .fp8e4m3) (hx : ∀ t k, x (ix2 t k) = a0 (ix3 0 t k))
    (h0 : ∀ i, ∃ r : ℝ, a0 i = (r : EReal)) (h1 : ∀ i, ∃ r : ℝ, a1 i = (r : EReal)) (h2 : ∀ i, ∃ r : ℝ, a2 i = (r : EReal))
    (O : Fin 4096) (G : Fin 86) (n : Fin 20) :
    lossG (F := Ideal) x a1 a2 n G (blkOf O) (posOf O) = Cert.ReferenceIdeal.Elem.loss a0 a1 a2 (ix3 O G n) := by
  choose r0 h0 using h0
  choose r1 h1 using h1
  choose r2 h2 using h2
  have hX : ∀ t k, Cert.ReferenceIdeal.Elem.xE a0 a1 G t k = ((r0 (ix3 0 t ⟨128 * G.val + k.val, by have := G.isLt; have := k.isLt; omega⟩) * r1 (ix2 0 t) : ℝ) : EReal) := by
    intro t k
    unfold Cert.ReferenceIdeal.Elem.xE
    rw [h0, h1, EReal.coe_mul]
  have hxG : ∀ t k, (xG (F := Ideal) x G (ix2 t k) : EReal) * a1 (ix2 0 t) = Cert.ReferenceIdeal.Elem.xE a0 a1 G t k := by
    intro t k
    refine congrArg (fun y : EReal => y * (a1 (ix2 0 t) : EReal)) ?_
    exact hx t _
  generalize hxr : (fun (t : Fin 512) (k : Fin 128) => r0 (ix3 0 t ⟨128 * G.val + k.val, by have := G.isLt; have := k.isLt; omega⟩) * r1 (ix2 0 t)) = xr at *
  have hX' : ∀ t k, Cert.ReferenceIdeal.Elem.xE a0 a1 G t k = (xr t k : EReal) := fun t k => by rw [hX, ← hxr]
  have hw : ∀ k, row a2 O G k = (r2 (ix2 O ⟨128 * G.val + k.val, by have := G.isLt; have := k.isLt; omega⟩) : EReal) := fun k => h2 _
  generalize hwr : (fun k : Fin 128 => r2 (ix2 O ⟨128 * G.val + k.val, by have := G.isLt; have := k.isLt; omega⟩)) = w at *
  have hw' : ∀ k, row a2 O G k = (w k : EReal) := fun k => by rw [hw, ← hwr]
  obtain ⟨a, ha, ha0, haz⟩ := coe_fold w
  have ha' : mag (row a2 O G) = (a : EReal) := (congrArg mag (funext hw')).trans ha
  have hz : ∀ k, ∃ z : ℝ, clq (Cert.ReferenceIdeal.Elem.tE a2 O G n k) = (z : EReal) := fun k => by
    obtain ⟨z, _, _, h⟩ := clq_int (Cert.ReferenceIdeal.Elem.tE a2 O G n k)
    exact ⟨z, h⟩
  choose z hz using hz
  have hg := Cert.KernelIdeal.Val.gram_apply (xG (F := Ideal) x G) a1 xr (fun t i => (hxG t i).trans (hX' t i))
  unfold lossG limbG
  rw [Cert.KernelIdeal.Val.lossE_real (wG a2 G (blkOf O)) _ (fun i j => ∑ t, xr t i * xr t j) hg
    (fun i j => Finset.sum_congr rfl fun t _ => mul_comm _ _) n (posOf O) w (fun k => (congrFun (row_eq a2 O G) k).trans (hw' k)) a
    ((congrArg mag (row_eq a2 O G)).trans ha') ha0 haz z (fun k => (congrArg clq (tE_eq a2 O G n k)).trans (hz k))]
  have he : ∀ k, Cert.ReferenceIdeal.Elem.eE a2 O G n k = ((w k - z k * sclR (rat n.val) a : ℝ) : EReal) := by
    intro k
    unfold Cert.ReferenceIdeal.Elem.eE sE
    rw [hw', hz, ha', scl_coe, ← EReal.coe_mul, ← EReal.coe_sub]
  have hG : ∀ j i, Cert.ReferenceIdeal.Elem.gram a0 a1 (ix3 G j i) = ((∑ t, xr t j * xr t i : ℝ) : EReal) := by
    intro j i
    rw [Cert.ReferenceIdeal.Elem.gram_apply, coe_sum]
    exact Finset.sum_congr rfl fun t _ => by rw [hX', hX', EReal.coe_mul]
  rw [Cert.ReferenceIdeal.Elem.loss_apply, coe_sum]
  refine Finset.sum_congr rfl fun i _ => ?_
  rw [he, EReal.coe_mul, coe_sum]
  refine congrArg (fun y : EReal => y * _) (Finset.sum_congr rfl fun j _ => ?_)
  rw [he, hG, EReal.coe_mul]

/-! ## As arrays -/

theorem loss_arr (x : S512x11008.Idx → Ideal .fp8e4m3) (hx : ∀ t k, x (ix2 t k) = a0 (ix3 0 t k))
    (h0 : ∀ i, ∃ r : ℝ, a0 i = (r : EReal)) (h1 : ∀ i, ∃ r : ℝ, a1 i = (r : EReal)) (h2 : ∀ i, ∃ r : ℝ, a2 i = (r : EReal)) :
    transpose S4096x86x20 [2, 1, 0] (arrLoss (F := Ideal) x a1 a2) Cert.KernelIdeal.Gen.transposes_S20x86x4096_S4096x86x20_2_1_0 = Cert.ReferenceIdeal.Elem.loss a0 a1 a2 := by
  funext j
  obtain ⟨O, G, n, rfl⟩ : ∃ (O : Fin 4096) (G : Fin 86) (n : Fin 20), j = ix3 O G n := ⟨j 0, j 1, j 2, eq_ix3 j⟩
  refine (transpose_apply [2, 1, 0] _ _ (ix3 O G n : S4096x86x20.Idx) (ix3 n G O) (fun b => by match b with | ⟨0, _⟩ => rfl | ⟨1, _⟩ => rfl | ⟨2, _⟩ => rfl)).trans ?_
  exact loss_eq a0 a1 a2 x hx h0 h1 h2 O G n

theorem scale_arr :
    transpose S4096x86x20 [2, 1, 0] (arrScale (F := Ideal) a2) Cert.KernelIdeal.Gen.transposes_S20x86x4096_S4096x86x20_2_1_0 = Cert.ReferenceIdeal.Elem.scale a2 := by
  funext j
  obtain ⟨O, G, n, rfl⟩ : ∃ (O : Fin 4096) (G : Fin 86) (n : Fin 20), j = ix3 O G n := ⟨j 0, j 1, j 2, eq_ix3 j⟩
  refine (transpose_apply [2, 1, 0] _ _ (ix3 O G n : S4096x86x20.Idx) (ix3 n G O) (fun b => by match b with | ⟨0, _⟩ => rfl | ⟨1, _⟩ => rfl | ⟨2, _⟩ => rfl)).trans ?_
  exact scale_eq a2 O G n

theorem code_arr :
    transpose S4096x86x20x64 [3, 0, 1, 2] (arrCode (F := Ideal) a2) Cert.KernelIdeal.Gen.transposes_S86x20x64x4096_S4096x86x20x64_3_0_1_2 = Cert.ReferenceIdeal.Elem.codes a2 := by
  funext j
  obtain ⟨O, G, n, r, rfl⟩ : ∃ (O : Fin 4096) (G : Fin 86) (n : Fin 20) (r : Fin 64), j = ix4 O G n r := ⟨j 0, j 1, j 2, j 3, eq_ix4 j⟩
  refine (transpose_apply [3, 0, 1, 2] _ _ (ix4 O G n r : S4096x86x20x64.Idx) (ix4 G n r O) (fun b => by match b with | ⟨0, _⟩ => rfl | ⟨1, _⟩ => rfl | ⟨2, _⟩ => rfl | ⟨3, _⟩ => rfl)).trans ?_
  exact code_eq a2 O G n r

end Cert.Equal

end
-- ==== Proof.Finite.lean ====
module

public import proofs.«01_k».proof.Pre_finite
public import Idealize.ShloMosaic.Lib.ReduceAll
public import Idealize.ShloMosaic.PureOps.Ideal
public import Idealize.ShloMosaic.Lib.Pipeline.ValueKit.Geometry

@[expose] public section

set_option maxRecDepth 16384

noncomputable section

namespace Cert.Pre_finite.Gen

open Cert.Pre_finite Idealize.ShloMosaic

/-! # The precondition: every argument element is a real number -/

instance facts : Cert.Pre_finite.Facts where
  bcast_S_S1x512x11008 := by decide
  reducesTo_S1x512x11008_S_d0_1_2 := by decide
  h_S_ := by decide
  bcast_S_S1x512 := by decide
  reducesTo_S1x512_S_d0_1 := by decide
  bcast_S_S4096x11008 := by decide
  reducesTo_S4096x11008_S_d0_1 := by decide

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

/-- A magnitude below infinity is a real number's. -/
theorem real_of_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

instance : Subsingleton S_.Idx := ⟨fun a b => funext fun i => i.elim0⟩

/-- One argument's conjunct, read at an element. -/
theorem real_of_reduce {s : Shape} {φ : FTy} {axes : List (Fin s.rank)} (x : FVec Ideal s φ) (b : BitVec φ.bits) (hb : Ideal.ofBits φ b = ⊤)
    (hB : S_.BroadcastsInDim s (![] : Fin 0 → Fin s.rank)) (hR : s.ReducesTo axes S_) (hu : 0 < S_.numel) (j : S_.Idx)
    (h : Host.reduce IntOp.andi (cmpf .olt (Host.absf x) (broadcastInDim s ![] hB (constant (F := Ideal) S_ φ b))) (constantI S_ 1 1#1) hR hu j = 1#1)
    (i : s.Idx) : ∃ r : ℝ, x i = (r : EReal) := by
  have h1 := Host.reduce_andi_all _ _ hR hu j h i
  refine real_of_lt _ ?_
  rw [← hb]
  exact h1

theorem finite_of (a0 : FVec Ideal S1x512x11008 .f32) (a1 : FVec Ideal S1x512 .f32) (a2 : FVec Ideal S4096x11008 .bf16)
    (h : Cert.Pre_finite.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have hj := congrFun h (fun i => i.elim0)
  unfold Cert.Pre_finite.fn at hj
  obtain ⟨h01, h2⟩ := IntOp.andi_eq_one.1 hj
  obtain ⟨h0, h1⟩ := IntOp.andi_eq_one.1 h01
  exact ⟨fun i => real_of_reduce a0 _ top_f32 _ _ _ _ h0 i, fun i => real_of_reduce a1 _ top_f32 _ _ _ _ h1 i, fun i => real_of_reduce a2 _ top_bf16 _ _ _ _ h2 i⟩

end Cert.Pre_finite.Gen

end
-- ==== Proof.lean ====
module

public import proofs.«01_k».proof.Defs
public import proofs.«01_k».proof.Proof.KernelFrame
public import proofs.«01_k».proof.Proof.KernelIdealFrame
public import proofs.«01_k».proof.Proof.Equal
public import proofs.«01_k».proof.Proof.Finite

@[expose] public section

set_option maxRecDepth 16384

noncomputable section

namespace Cert.Proof

open Idealize.ShloMosaic Idealize.ShloMosaic.TcCoe Idealize.ShloMosaic.StableHlo Idealize.SL.Sem
open Idealize.ShloMosaic.ValueIdx

/-- The reference leaves its arguments as they were, and has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => ⟨(h c).2.2.2.1, (h c).2.2.2.2.1, (h c).2.2.2.2.2⟩, sem_eq_zero_of_no_sems (by decide) r.2⟩) (Cert.ReferenceIdeal.Value.run m g)

/-- The codes as the region finds them: the argument's elements. -/
theorem xIn_apply (m : (ℓ : Loc Cert.KernelIdeal.nD Cert.KernelIdeal.τ Cert.KernelIdeal.sig) → Buf (Elt Ideal) ℓ) (c : Dev Cert.KernelIdeal.nD) (t : Fin 512) (k : Fin 11008) :
    Cert.KernelIdeal.Val.xIn m c (ix2 t k) = (m ((c.tc : Thread Cert.KernelIdeal.nD Cert.KernelIdeal.τ).loc Cert.KernelIdeal.main_arg0) : FVec Ideal Cert.KernelIdeal.S1x512x11008 .f32) (ix3 0 t k) := by
  have e : Cert.KernelIdeal.Val.xIn m c = shapeCast Cert.KernelIdeal.S512x11008 (Host.convertf (F := Ideal) (s := Cert.KernelIdeal.S1x512x11008) (φ := .f32) .fp8e4m3 (m ((c.tc : Thread Cert.KernelIdeal.nD Cert.KernelIdeal.τ).loc Cert.KernelIdeal.main_arg0) : FVec Ideal Cert.KernelIdeal.S1x512x11008 .f32)) Cert.KernelIdeal.Gen.shapeCasts_S1x512x11008_S512x11008 := by
    unfold Cert.KernelIdeal.Val.xIn Cert.KernelIdeal.Gen.V Cert.KernelIdeal.Gen.V0
    simp only [List.flatten_cons, List.flatten_nil, List.append_nil]
    after_results_simp
    rfl
  rw [e, shapeCast_apply _ Cert.KernelIdeal.Gen.shapeCasts_S1x512x11008_S512x11008 (ix2 t k) (ix3 0 t k) (by
    rw [Shape.rowMajor_val_two, Shape.rowMajor_val_three]
    show (0 * 512 + t.val) * 11008 + k.val = t.val * 11008 + k.val
    omega)]
  rfl

theorem outScale_eq (m : (ℓ : Loc Cert.KernelIdeal.nD Cert.KernelIdeal.τ Cert.KernelIdeal.sig) → Buf (Elt Ideal) ℓ) (c : Dev Cert.KernelIdeal.nD) :
    Cert.KernelIdeal.Val.outScale m c = Cert.ReferenceIdeal.Elem.scale (m ((c.tc : Thread Cert.KernelIdeal.nD Cert.KernelIdeal.τ).loc Cert.KernelIdeal.main_arg2)) :=
  (congrArg (fun w : FVec Ideal Cert.KernelIdeal.S4096x11008 .bf16 => transpose Cert.KernelIdeal.S4096x86x20 [2, 1, 0] (Cert.KernelIdeal.Val.arrScale (F := Ideal) w) Cert.KernelIdeal.Gen.transposes_S20x86x4096_S4096x86x20_2_1_0)
    (Cert.KernelIdeal.Gen.V_main_arg2 m c)).trans (Cert.Equal.scale_arr _)

theorem outCode_eq (m : (ℓ : Loc Cert.KernelIdeal.nD Cert.KernelIdeal.τ Cert.KernelIdeal.sig) → Buf (Elt Ideal) ℓ) (c : Dev Cert.KernelIdeal.nD) :
    Cert.KernelIdeal.Val.outCode m c = Cert.ReferenceIdeal.Elem.codes (m ((c.tc : Thread Cert.KernelIdeal.nD Cert.KernelIdeal.τ).loc Cert.KernelIdeal.main_arg2)) :=
  (congrArg (fun w : FVec Ideal Cert.KernelIdeal.S4096x11008 .bf16 => transpose Cert.KernelIdeal.S4096x86x20x64 [3, 0, 1, 2] (Cert.KernelIdeal.Val.arrCode (F := Ideal) w) Cert.KernelIdeal.Gen.transposes_S86x20x64x4096_S4096x86x20x64_3_0_1_2)
    (Cert.KernelIdeal.Gen.V_main_arg2 m c)).trans (Cert.Equal.code_arr _)

theorem outLoss_eq (m : (ℓ : Loc Cert.KernelIdeal.nD Cert.KernelIdeal.τ Cert.KernelIdeal.sig) → Buf (Elt Ideal) ℓ) (c : Dev Cert.KernelIdeal.nD)
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) :
    Cert.KernelIdeal.Val.outLoss m c = Cert.ReferenceIdeal.Elem.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨f0, f1, f2⟩ := Cert.Pre_finite.Gen.finite_of _ _ _ h
  exact (congrArg₂ (fun (s : FVec Ideal Cert.KernelIdeal.S1x512 .f32) (w : FVec Ideal Cert.KernelIdeal.S4096x11008 .bf16) =>
      transpose Cert.KernelIdeal.S4096x86x20 [2, 1, 0] (Cert.KernelIdeal.Val.arrLoss (F := Ideal) (Cert.KernelIdeal.Val.xIn m c) s w) Cert.KernelIdeal.Gen.transposes_S20x86x4096_S4096x86x20_2_1_0)
    (Cert.KernelIdeal.Gen.V_main_arg1 m c) (Cert.KernelIdeal.Gen.V_main_arg2 m c)).trans
    (Cert.Equal.loss_arr _ _ _ _ (fun t k => xIn_apply m c t k) f0 f1 f2)

theorem values : algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  refine ⟨fun c => Cert.KernelIdeal.Val.outLoss m c, fun c => Cert.KernelIdeal.Val.outCode m c, fun c => Cert.KernelIdeal.Val.outScale m c, Cert.KernelIdeal.Val.run m g, ?_⟩
  refine (θ_run _ _ _).mono (fun r h c => ?_) (Cert.ReferenceIdeal.Value.run m' g')
  obtain ⟨h44, h52, h25, ha⟩ := h c
  obtain ⟨e0, e1, e2⟩ := hargs c
  refine ⟨(h44.trans (Cert.ReferenceIdeal.Elem.res44 m' c)).trans ?_, (h52.trans (Cert.ReferenceIdeal.Elem.res52 m' c)).trans ?_, h25.trans ?_, ha⟩
  · rw [e0, e1, e2]
    exact (outLoss_eq m c (hpre c)).symm
  · rw [e2]
    exact (outCode_eq m c).symm
  · rw [e2]
    exact (outScale_eq m c).symm

theorem claim : Cert.Claim :=
  ⟨Cert.Kernel.Gen.facts, Cert.KernelIdeal.Gen.facts, Cert.ReferenceIdeal.Gen.facts, Cert.Pre_finite.Gen.facts,
    fun m g _ => Cert.Kernel.Hand.frame m g,
    fun m g _ => Cert.KernelIdeal.Hand.frame m g,
    fun m g _ => Cert.KernelIdeal.Hand.frame m g,
    fun m g _ => reference_frame m g,
    fun m g _ => reference_frame m g,
    trivial,
    values⟩

end Cert.Proof

end
